-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x128x6144 : Shape := ⟨3, ![12, 128, 6144]⟩
abbrev S6144 : Shape := ⟨1, ![6144]⟩
abbrev S20480 : Shape := ⟨1, ![20480]⟩
abbrev S6144x2560 : Shape := ⟨2, ![6144, 2560]⟩
abbrev S48x20480 : Shape := ⟨2, ![48, 20480]⟩
abbrev S48x2560 : Shape := ⟨2, ![48, 2560]⟩
abbrev S1536x6144 : Shape := ⟨2, ![1536, 6144]⟩
abbrev S1x6144 : Shape := ⟨2, ![1, 6144]⟩
abbrev S1x20480 : Shape := ⟨2, ![1, 20480]⟩
abbrev S1536x20480 : Shape := ⟨2, ![1536, 20480]⟩
abbrev S512x6144 : Shape := ⟨2, ![512, 6144]⟩
abbrev S1x1024 : Shape := ⟨2, ![1, 1024]⟩
abbrev S6144x128 : Shape := ⟨2, ![6144, 128]⟩
abbrev S48x1024 : Shape := ⟨2, ![48, 1024]⟩
abbrev S48x128 : Shape := ⟨2, ![48, 128]⟩
abbrev S512x1024 : Shape := ⟨2, ![512, 1024]⟩
abbrev S6144x1024 : Shape := ⟨2, ![6144, 1024]⟩
abbrev S8x48x128 : Shape := ⟨3, ![8, 48, 128]⟩
abbrev S16x6144 : Shape := ⟨2, ![16, 6144]⟩
abbrev S16 : Shape := ⟨1, ![16]⟩
abbrev S16x1 : Shape := ⟨2, ![16, 1]⟩
abbrev S48x128x1 : Shape := ⟨3, ![48, 128, 1]⟩
abbrev S1x48x128 : Shape := ⟨3, ![1, 48, 128]⟩
abbrev S64x128 : Shape := ⟨2, ![64, 128]⟩
abbrev S64x128x1 : Shape := ⟨3, ![64, 128, 1]⟩
abbrev S1x1x128 : Shape := ⟨3, ![1, 1, 128]⟩
abbrev S1x128 : Shape := ⟨2, ![1, 128]⟩
abbrev S128x128 : Shape := ⟨2, ![128, 128]⟩

abbrev nBuf : Space → Nat
  | .hbm => 10
  | .vmem => 17
  | .smem => 0
  | _ => 0

abbrev bufTy : (tb : Table) → Fin (tcTables nBuf tb) → BufTy
  | .hbm, ⟨0, _⟩ => ⟨S12x128x6144, .bf16⟩
  | .hbm, ⟨1, _⟩ => ⟨S6144, .f32⟩
  | .hbm, ⟨2, _⟩ => ⟨S20480, .f32⟩
  | .hbm, ⟨3, _⟩ => ⟨S6144x2560, .i32⟩
  | .hbm, ⟨4, _⟩ => ⟨S48x20480, .bf16⟩
  | .hbm, ⟨5, _⟩ => ⟨S48x2560, .i32⟩
  | .hbm, ⟨6, _⟩ => ⟨S1536x6144, .bf16⟩
  | .hbm, ⟨7, _⟩ => ⟨S1x6144, .f32⟩
  | .hbm, ⟨8, _⟩ => ⟨S1x20480, .f32⟩
  | .hbm, ⟨9, _⟩ => ⟨S1536x20480, .bf16⟩
  | .local _ .vmem, ⟨0, _⟩ => ⟨S512x6144, .bf16⟩
  | .local _ .vmem, ⟨1, _⟩ => ⟨S512x6144, .bf16⟩
  | .local _ .vmem, ⟨2, _⟩ => ⟨S1x6144, .f32⟩
  | .local _ .vmem, ⟨3, _⟩ => ⟨S1x1024, .f32⟩
  | .local _ .vmem, ⟨4, _⟩ => ⟨S1x1024, .f32⟩
  | .local _ .vmem, ⟨5, _⟩ => ⟨S6144x128, .i32⟩
  | .local _ .vmem, ⟨6, _⟩ => ⟨S6144x128, .i32⟩
  | .local _ .vmem, ⟨7, _⟩ => ⟨S48x1024, .bf16⟩
  | .local _ .vmem, ⟨8, _⟩ => ⟨S48x1024, .bf16⟩
  | .local _ .vmem, ⟨9, _⟩ => ⟨S48x128, .i32⟩
  | .local _ .vmem, ⟨10, _⟩ => ⟨S48x128, .i32⟩
  | .local _ .vmem, ⟨11, _⟩ => ⟨S512x1024, .bf16⟩
  | .local _ .vmem, ⟨12, _⟩ => ⟨S512x1024, .bf16⟩
  | .local _ .vmem, ⟨13, _⟩ => ⟨S1536x6144, .bf16⟩
  | .local _ .vmem, ⟨14, _⟩ => ⟨S6144x1024, .bf16⟩
  | .local _ .vmem, ⟨15, _⟩ => ⟨S8x48x128, .i32⟩
  | .local _ .vmem, ⟨16, _⟩ => ⟨S8x48x128, .f32⟩
  | _, _ => ⟨S12x128x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![20, 3], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

@[reducible] def k0_t1_loop : Scf.Loop 32 :=
  let c0_i32_9 : BitVec 32 := 0#32
  let c32_i32 : BitVec 32 := 32#32
  let v18 : BitVec 32 := Scalar.addi c0_i32_9 c32_i32
  let c1_i32 : BitVec 32 := 1#32
  ⟨c0_i32_9, v18, c1_i32⟩
def k0_mult2 (k0_t1 : Fin k0_t1_loop.trips) : BitVec 32 :=
  let c0_i32_9 : BitVec 32 := 0#32
  let c1_i32 : BitVec 32 := 1#32
  let arg13 : BitVec 32 := Scf.iv c0_i32_9 c1_i32 k0_t1
  let c16_i32 : BitVec 32 := 16#32
  let v19 : BitVec 32 := Scalar.muli arg13 c16_i32
  v19
def k0_off1 (k0_t1 : Fin k0_t1_loop.trips) : Fin 2 → Nat :=
  let c0_i32_9 : BitVec 32 := 0#32
  let c1_i32 : BitVec 32 := 1#32
  let arg13 : BitVec 32 := Scf.iv c0_i32_9 c1_i32 k0_t1
  let c16_i32 : BitVec 32 := 16#32
  let v19 : BitVec 32 := Scalar.muli arg13 c16_i32
  let v20 : BitVec 32 := v19
  let v21 : Index := Scalar.indexCast v20
  let c0_11 : Index := 0#32
  ![v21.toNat, 0]
def k0_mult3 (i : grid0.Coords) (k0_t1 : Fin k0_t1_loop.trips) : BitVec 32 :=
  let arg1 : BitVec 32 := BitVec.ofNat 32 (i 1).val
  let c512_i32_14 : BitVec 32 := 512#32
  let v30 : BitVec 32 := Scalar.muli arg1 c512_i32_14
  let c0_i32_9 : BitVec 32 := 0#32
  let c1_i32 : BitVec 32 := 1#32
  let arg13 : BitVec 32 := Scf.iv c0_i32_9 c1_i32 k0_t1
  let c16_i32_15 : BitVec 32 := 16#32
  let v31 : BitVec 32 := Scalar.muli arg13 c16_i32_15
  let v32 : BitVec 32 := Scalar.addi v30 v31
  v32
def k0_off2 (i : grid0.Coords) (k0_t1 : Fin k0_t1_loop.trips) : Fin 2 → Nat :=
  let arg1 : BitVec 32 := BitVec.ofNat 32 (i 1).val
  let c512_i32_14 : BitVec 32 := 512#32
  let v30 : BitVec 32 := Scalar.muli arg1 c512_i32_14
  let c0_i32_9 : BitVec 32 := 0#32
  let c1_i32 : BitVec 32 := 1#32
  let arg13 : BitVec 32 := Scf.iv c0_i32_9 c1_i32 k0_t1
  let c16_i32_15 : BitVec 32 := 16#32
  let v31 : BitVec 32 := Scalar.muli arg13 c16_i32_15
  let v32 : BitVec 32 := Scalar.addi v30 v31
  let v33 : BitVec 32 := v32
  let v44 : Index := Scalar.indexCast v33
  let c0_19 : Index := 0#32
  ![v44.toNat, 0]
def k0_cond2 (i : grid0.Coords) : BitVec 1 :=
  let arg1 : BitVec 32 := BitVec.ofNat 32 (i 1).val
  let c0_i32_1 : BitVec 32 := 0#32
  let v5 : BitVec 1 := Scalar.cmpi .eq arg1 c0_i32_1
  let v6 : BitVec 32 := Scalar.extui v5
  let c0_i32_2 : BitVec 32 := 0#32
  let v7 : BitVec 1 := Scalar.cmpi .ne v6 c0_i32_2
  v7

@[reducible] def k0_t2_loop : Scf.Loop 32 :=
  let c0_i32_108 : BitVec 32 := 0#32
  let c48_i32_109 : BitVec 32 := 48#32
  let v251 : BitVec 32 := Scalar.addi c0_i32_108 c48_i32_109
  let c1_i32_110 : BitVec 32 := 1#32
  ⟨c0_i32_108, v251, c1_i32_110⟩
def k0_mult4 (k0_t2 : Fin k0_t2_loop.trips) : BitVec 32 :=
  let c0_i32_108 : BitVec 32 := 0#32
  let c1_i32_110 : BitVec 32 := 1#32
  let arg13 : BitVec 32 := Scf.iv c0_i32_108 c1_i32_110 k0_t2
  let c128_i32_112 : BitVec 32 := 128#32
  let v252 : BitVec 32 := Scalar.muli arg13 c128_i32_112
  v252
def k0_off3 (k0_t2 : Fin k0_t2_loop.trips) : Fin 2 → Nat :=
  let c0_i32_108 : BitVec 32 := 0#32
  let c1_i32_110 : BitVec 32 := 1#32
  let arg13 : BitVec 32 := Scf.iv c0_i32_108 c1_i32_110 k0_t2
  let c128_i32_112 : BitVec 32 := 128#32
  let v252 : BitVec 32 := Scalar.muli arg13 c128_i32_112
  let v253 : BitVec 32 := v252
  let v254 : Index := Scalar.indexCast v253
  let c0_113 : Index := 0#32
  ![v254.toNat, 0]
def k0_off4 (k0_t2 : Fin k0_t2_loop.trips) : Fin 2 → Nat :=
  let c0_i32_108 : BitVec 32 := 0#32
  let c1_i32_110 : BitVec 32 := 1#32
  let arg13 : BitVec 32 := Scf.iv c0_i32_108 c1_i32_110 k0_t2
  let c128_i32_112 : BitVec 32 := 128#32
  let v252 : BitVec 32 := Scalar.muli arg13 c128_i32_112
  let v253 : BitVec 32 := v252
  let c1_i32_114 : BitVec 32 := 1#32
  let v256 : BitVec 32 := Scalar.addi v253 c1_i32_114
  let v257 : Index := Scalar.indexCast v256
  let c0_115 : Index := 0#32
  ![v257.toNat, 0]
def k0_off5 (k0_t2 : Fin k0_t2_loop.trips) : Fin 3 → Nat :=
  let c0_132 : Index := 0#32
  let c0_i32_108 : BitVec 32 := 0#32
  let c1_i32_110 : BitVec 32 := 1#32
  let arg13 : BitVec 32 := Scf.iv c0_i32_108 c1_i32_110 k0_t2
  let v304 : Index := Scalar.indexCast arg13
  let c0_133 : Index := 0#32
  ![0, v304.toNat, 0]
def k0_off6 (k0_t2 : Fin k0_t2_loop.trips) : Fin 2 → Nat :=
  let c0_i32_108 : BitVec 32 := 0#32
  let c1_i32_110 : BitVec 32 := 1#32
  let arg13 : BitVec 32 := Scf.iv c0_i32_108 c1_i32_110 k0_t2
  let c128_i32_112 : BitVec 32 := 128#32
  let v252 : BitVec 32 := Scalar.muli arg13 c128_i32_112
  let v253 : BitVec 32 := v252
  let v319 : Index := Scalar.indexCast v253
  let c0_136 : Index := 0#32
  ![v319.toNat, 0]
def k0_off7 (k0_t2 : Fin k0_t2_loop.trips) : Fin 3 → Nat :=
  let c1_142 : Index := 1#32
  let c0_i32_108 : BitVec 32 := 0#32
  let c1_i32_110 : BitVec 32 := 1#32
  let arg13 : BitVec 32 := Scf.iv c0_i32_108 c1_i32_110 k0_t2
  let v338 : Index := Scalar.indexCast arg13
  let c0_143 : Index := 0#32
  ![1, v338.toNat, 0]
def k0_off8 (k0_t2 : Fin k0_t2_loop.trips) : Fin 2 → Nat :=
  let c0_i32_108 : BitVec 32 := 0#32
  let c1_i32_110 : BitVec 32 := 1#32
  let arg13 : BitVec 32 := Scf.iv c0_i32_108 c1_i32_110 k0_t2
  let c128_i32_112 : BitVec 32 := 128#32
  let v252 : BitVec 32 := Scalar.muli arg13 c128_i32_112
  let v253 : BitVec 32 := v252
  let v353 : Index := Scalar.indexCast v253
  let c128_146 : Index := 128#32
  ![v353.toNat, 128]
def k0_off9 (k0_t2 : Fin k0_t2_loop.trips) : Fin 3 → Nat :=
  let c2_152 : Index := 2#32
  let c0_i32_108 : BitVec 32 := 0#32
  let c1_i32_110 : BitVec 32 := 1#32
  let arg13 : BitVec 32 := Scf.iv c0_i32_108 c1_i32_110 k0_t2
  let v372 : Index := Scalar.indexCast arg13
  let c0_153 : Index := 0#32
  ![2, v372.toNat, 0]
def k0_off10 (k0_t2 : Fin k0_t2_loop.trips) : Fin 2 → Nat :=
  let c0_i32_108 : BitVec 32 := 0#32
  let c1_i32_110 : BitVec 32 := 1#32
  let arg13 : BitVec 32 := Scf.iv c0_i32_108 c1_i32_110 k0_t2
  let c128_i32_112 : BitVec 32 := 128#32
  let v252 : BitVec 32 := Scalar.muli arg13 c128_i32_112
  let v253 : BitVec 32 := v252
  let v387 : Index := Scalar.indexCast v253
  let c256_156 : Index := 256#32
  ![v387.toNat, 256]
def k0_off11 (k0_t2 : Fin k0_t2_loop.trips) : Fin 3 → Nat :=
  let c3_162 : Index := 3#32
  let c0_i32_108 : BitVec 32 := 0#32
  let c1_i32_110 : BitVec 32 := 1#32
  let arg13 : BitVec 32 := Scf.iv c0_i32_108 c1_i32_110 k0_t2
  let v406 : Index := Scalar.indexCast arg13
  let c0_163 : Index := 0#32
  ![3, v406.toNat, 0]
def k0_off12 (k0_t2 : Fin k0_t2_loop.trips) : Fin 2 → Nat :=
  let c0_i32_108 : BitVec 32 := 0#32
  let c1_i32_110 : BitVec 32 := 1#32
  let arg13 : BitVec 32 := Scf.iv c0_i32_108 c1_i32_110 k0_t2
  let c128_i32_112 : BitVec 32 := 128#32
  let v252 : BitVec 32 := Scalar.muli arg13 c128_i32_112
  let v253 : BitVec 32 := v252
  let v421 : Index := Scalar.indexCast v253
  let c384_166 : Index := 384#32
  ![v421.toNat, 384]
def k0_off13 (k0_t2 : Fin k0_t2_loop.trips) : Fin 3 → Nat :=
  let c4_172 : Index := 4#32
  let c0_i32_108 : BitVec 32 := 0#32
  let c1_i32_110 : BitVec 32 := 1#32
  let arg13 : BitVec 32 := Scf.iv c0_i32_108 c1_i32_110 k0_t2
  let v440 : Index := Scalar.indexCast arg13
  let c0_173 : Index := 0#32
  ![4, v440.toNat, 0]
def k0_off14 (k0_t2 : Fin k0_t2_loop.trips) : Fin 2 → Nat :=
  let c0_i32_108 : BitVec 32 := 0#32
  let c1_i32_110 : BitVec 32 := 1#32
  let arg13 : BitVec 32 := Scf.iv c0_i32_108 c1_i32_110 k0_t2
  let c128_i32_112 : BitVec 32 := 128#32
  let v252 : BitVec 32 := Scalar.muli arg13 c128_i32_112
  let v253 : BitVec 32 := v252
  let v455 : Index := Scalar.indexCast v253
  let c512_176 : Index := 512#32
  ![v455.toNat, 512]
def k0_off15 (k0_t2 : Fin k0_t2_loop.trips) : Fin 3 → Nat :=
  let c5_182 : Index := 5#32
  let c0_i32_108 : BitVec 32 := 0#32
  let c1_i32_110 : BitVec 32 := 1#32
  let arg13 : BitVec 32 := Scf.iv c0_i32_108 c1_i32_110 k0_t2
  let v474 : Index := Scalar.indexCast arg13
  let c0_183 : Index := 0#32
  ![5, v474.toNat, 0]
def k0_off16 (k0_t2 : Fin k0_t2_loop.trips) : Fin 2 → Nat :=
  let c0_i32_108 : BitVec 32 := 0#32
  let c1_i32_110 : BitVec 32 := 1#32
  let arg13 : BitVec 32 := Scf.iv c0_i32_108 c1_i32_110 k0_t2
  let c128_i32_112 : BitVec 32 := 128#32
  let v252 : BitVec 32 := Scalar.muli arg13 c128_i32_112
  let v253 : BitVec 32 := v252
  let v489 : Index := Scalar.indexCast v253
  let c640_186 : Index := 640#32
  ![v489.toNat, 640]
def k0_off17 (k0_t2 : Fin k0_t2_loop.trips) : Fin 3 → Nat :=
  let c6_192 : Index := 6#32
  let c0_i32_108 : BitVec 32 := 0#32
  let c1_i32_110 : BitVec 32 := 1#32
  let arg13 : BitVec 32 := Scf.iv c0_i32_108 c1_i32_110 k0_t2
  let v508 : Index := Scalar.indexCast arg13
  let c0_193 : Index := 0#32
  ![6, v508.toNat, 0]
def k0_off18 (k0_t2 : Fin k0_t2_loop.trips) : Fin 2 → Nat :=
  let c0_i32_108 : BitVec 32 := 0#32
  let c1_i32_110 : BitVec 32 := 1#32
  let arg13 : BitVec 32 := Scf.iv c0_i32_108 c1_i32_110 k0_t2
  let c128_i32_112 : BitVec 32 := 128#32
  let v252 : BitVec 32 := Scalar.muli arg13 c128_i32_112
  let v253 : BitVec 32 := v252
  let v523 : Index := Scalar.indexCast v253
  let c768_196 : Index := 768#32
  ![v523.toNat, 768]
def k0_off19 (k0_t2 : Fin k0_t2_loop.trips) : Fin 3 → Nat :=
  let c7_202 : Index := 7#32
  let c0_i32_108 : BitVec 32 := 0#32
  let c1_i32_110 : BitVec 32 := 1#32
  let arg13 : BitVec 32 := Scf.iv c0_i32_108 c1_i32_110 k0_t2
  let v542 : Index := Scalar.indexCast arg13
  let c0_203 : Index := 0#32
  ![7, v542.toNat, 0]
def k0_off20 (k0_t2 : Fin k0_t2_loop.trips) : Fin 2 → Nat :=
  let c0_i32_108 : BitVec 32 := 0#32
  let c1_i32_110 : BitVec 32 := 1#32
  let arg13 : BitVec 32 := Scf.iv c0_i32_108 c1_i32_110 k0_t2
  let c128_i32_112 : BitVec 32 := 128#32
  let v252 : BitVec 32 := Scalar.muli arg13 c128_i32_112
  let v253 : BitVec 32 := v252
  let v557 : Index := Scalar.indexCast v253
  let c896_206 : Index := 896#32
  ![v557.toNat, 896]
def k0_off21 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v8 : Index := Scalar.indexCast v1
  let c0 : Index := 0#32
  ![v8.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c2_i32 : BitVec 32 := 2#32
  let v1 : BitVec 32 := Scalar.select v0 arg1 c2_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S6144x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S48x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S48x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S12x128x6144 : Shape := ⟨3, ![12, 128, 6144]⟩
abbrev S6144 : Shape := ⟨1, ![6144]⟩
abbrev S20480 : Shape := ⟨1, ![20480]⟩
abbrev S6144x2560 : Shape := ⟨2, ![6144, 2560]⟩
abbrev S48x20480 : Shape := ⟨2, ![48, 20480]⟩
abbrev S48x2560 : Shape := ⟨2, ![48, 2560]⟩
abbrev S_ : Shape := ⟨0, ![]⟩
abbrev S12x128 : Shape := ⟨2, ![12, 128]⟩
abbrev S12x128x1 : Shape := ⟨3, ![12, 128, 1]⟩
abbrev S1x1x6144 : Shape := ⟨3, ![1, 1, 6144]⟩
abbrev S48x128x2560 : Shape := ⟨3, ![48, 128, 2560]⟩
abbrev S48x1x2560 : Shape := ⟨3, ![48, 1, 2560]⟩
abbrev S12x128x2560 : Shape := ⟨3, ![12, 128, 2560]⟩
abbrev S12x128x2560x1 : Shape := ⟨4, ![12, 128, 2560, 1]⟩
abbrev S12x128x2560x8 : Shape := ⟨4, ![12, 128, 2560, 8]⟩
abbrev S12x128x20480 : Shape := ⟨3, ![12, 128, 20480]⟩
abbrev S1x1x20480 : Shape := ⟨3, ![1, 1, 20480]⟩
abbrev S1536x20480 : Shape := ⟨2, ![1536, 20480]⟩

abbrev nBuf : Space → Nat
  | .hbm => 231
  | .vmem => 0
  | .smem => 0
  | _ => 0

abbrev hbmTy0_0 (i : Nat) : BufTy := match i % 128 with
  | 0 => ⟨S12x128x6144, .bf16⟩
  | 1 => ⟨S6144, .f32⟩
  | 2 => ⟨S20480, .f32⟩
  | 3 => ⟨S6144x2560, .i32⟩
  | 4 => ⟨S48x20480, .bf16⟩
  | 5 => ⟨S48x2560, .i32⟩
  | 6 => ⟨S12x128x6144, .f32⟩
  | 7 => ⟨S12x128x6144, .f32⟩
  | 8 => ⟨S_, .f32⟩
  | 9 => ⟨S12x128, .f32⟩
  | 10 => ⟨S12x128x1, .f32⟩
  | 11 => ⟨S_, .f32⟩
  | 12 => ⟨S12x128x1, .f32⟩
  | 13 => ⟨S12x128x1, .f32⟩
  | 14 => ⟨S_, .f32⟩
  | 15 => ⟨S12x128x1, .f32⟩
  | 16 => ⟨S12x128x1, .f32⟩
  | 17 => ⟨S12x128x1, .f32⟩
  | 18 => ⟨S12x128x6144, .f32⟩
  | 19 => ⟨S12x128x6144, .f32⟩
  | 20 => ⟨S1x1x6144, .f32⟩
  | 21 => ⟨S12x128x6144, .f32⟩
  | 22 => ⟨S12x128x6144, .f32⟩
  | 23 => ⟨S12x128x6144, .bf16⟩
  | 24 => ⟨S_, .i32⟩
  | 25 => ⟨S6144x2560, .i32⟩
  | 26 => ⟨S6144x2560, .i32⟩
  | 27 => ⟨S_, .i32⟩
  | 28 => ⟨S6144x2560, .i32⟩
  | 29 => ⟨S6144x2560, .i32⟩
  | 30 => ⟨S_, .i32⟩
  | 31 => ⟨S48x2560, .i32⟩
  | 32 => ⟨S48x2560, .i32⟩
  | 33 => ⟨S_, .i32⟩
  | 34 => ⟨S48x2560, .i32⟩
  | 35 => ⟨S48x2560, .i32⟩
  | 36 => ⟨S48x2560, .bf16⟩
  | 37 => ⟨S6144x2560, .bf16⟩
  | 38 => ⟨S48x128x2560, .bf16⟩
  | 39 => ⟨S48x2560, .bf16⟩
  | 40 => ⟨S48x1x2560, .bf16⟩
  | 41 => ⟨S48x128x2560, .bf16⟩
  | 42 => ⟨S48x128x2560, .bf16⟩
  | 43 => ⟨S48x1x2560, .bf16⟩
  | 44 => ⟨S48x128x2560, .bf16⟩
  | 45 => ⟨S48x128x2560, .bf16⟩
  | 46 => ⟨S6144x2560, .bf16⟩
  | 47 => ⟨S12x128x2560, .f32⟩
  | 48 => ⟨S_, .i32⟩
  | 49 => ⟨S6144x2560, .i32⟩
  | 50 => ⟨S6144x2560, .i32⟩
  | 51 => ⟨S_, .i32⟩
  | 52 => ⟨S6144x2560, .i32⟩
  | 53 => ⟨S6144x2560, .i32⟩
  | 54 => ⟨S_, .i32⟩
  | 55 => ⟨S48x2560, .i32⟩
  | 56 => ⟨S48x2560, .i32⟩
  | 57 => ⟨S_, .i32⟩
  | 58 => ⟨S48x2560, .i32⟩
  | 59 => ⟨S48x2560, .i32⟩
  | 60 => ⟨S48x2560, .bf16⟩
  | 61 => ⟨S6144x2560, .bf16⟩
  | 62 => ⟨S48x128x2560, .bf16⟩
  | 63 => ⟨S48x2560, .bf16⟩
  | 64 => ⟨S48x1x2560, .bf16⟩
  | 65 => ⟨S48x128x2560, .bf16⟩
  | 66 => ⟨S48x128x2560, .bf16⟩
  | 67 => ⟨S48x1x2560, .bf16⟩
  | 68 => ⟨S48x128x2560, .bf16⟩
  | 69 => ⟨S48x128x2560, .bf16⟩
  | 70 => ⟨S6144x2560, .bf16⟩
  | 71 => ⟨S12x128x2560, .f32⟩
  | 72 => ⟨S_, .i32⟩
  | 73 => ⟨S6144x2560, .i32⟩
  | 74 => ⟨S6144x2560, .i32⟩
  | 75 => ⟨S_, .i32⟩
  | 76 => ⟨S6144x2560, .i32⟩
  | 77 => ⟨S6144x2560, .i32⟩
  | 78 => ⟨S_, .i32⟩
  | 79 => ⟨S48x2560, .i32⟩
  | 80 => ⟨S48x2560, .i32⟩
  | 81 => ⟨S_, .i32⟩
  | 82 => ⟨S48x2560, .i32⟩
  | 83 => ⟨S48x2560, .i32⟩
  | 84 => ⟨S48x2560, .bf16⟩
  | 85 => ⟨S6144x2560, .bf16⟩
  | 86 => ⟨S48x128x2560, .bf16⟩
  | 87 => ⟨S48x2560, .bf16⟩
  | 88 => ⟨S48x1x2560, .bf16⟩
  | 89 => ⟨S48x128x2560, .bf16⟩
  | 90 => ⟨S48x128x2560, .bf16⟩
  | 91 => ⟨S48x1x2560, .bf16⟩
  | 92 => ⟨S48x128x2560, .bf16⟩
  | 93 => ⟨S48x128x2560, .bf16⟩
  | 94 => ⟨S6144x2560, .bf16⟩
  | 95 => ⟨S12x128x2560, .f32⟩
  | 96 => ⟨S_, .i32⟩
  | 97 => ⟨S6144x2560, .i32⟩
  | 98 => ⟨S6144x2560, .i32⟩
  | 99 => ⟨S_, .i32⟩
  | 100 => ⟨S6144x2560, .i32⟩
  | 101 => ⟨S6144x2560, .i32⟩
  | 102 => ⟨S_, .i32⟩
  | 103 => ⟨S48x2560, .i32⟩
  | 104 => ⟨S48x2560, .i32⟩
  | 105 => ⟨S_, .i32⟩
  | 106 => ⟨S48x2560, .i32⟩
  | 107 => ⟨S48x2560, .i32⟩
  | 108 => ⟨S48x2560, .bf16⟩
  | 109 => ⟨S6144x2560, .bf16⟩
  | 110 => ⟨S48x128x2560, .bf16⟩
  | 111 => ⟨S48x2560, .bf16⟩
  | 112 => ⟨S48x1x2560, .bf16⟩
  | 113 => ⟨S48x128x2560, .bf16⟩
  | 114 => ⟨S48x128x2560, .bf16⟩
  | 115 => ⟨S48x1x2560, .bf16⟩
  | 116 => ⟨S48x128x2560, .bf16⟩
  | 117 => ⟨S48x128x2560, .bf16⟩
  | 118 => ⟨S6144x2560, .bf16⟩
  | 119 => ⟨S12x128x2560, .f32⟩
  | 120 => ⟨S_, .i32⟩
  | 121 => ⟨S6144x2560, .i32⟩
  | 122 => ⟨S6144x2560, .i32⟩
  | 123 => ⟨S_, .i32⟩
  | 124 => ⟨S6144x2560, .i32⟩
  | 125 => ⟨S6144x2560, .i32⟩
  | 126 => ⟨S_, .i32⟩
  | 127 => ⟨S48x2560, .i32⟩
  | _ => ⟨S12x128x6144, .bf16⟩

abbrev hbmTy0_1 (i : Nat) : BufTy := match i % 128 with
  | 0 => ⟨S48x2560, .i32⟩
  | 1 => ⟨S_, .i32⟩
  | 2 => ⟨S48x2560, .i32⟩
  | 3 => ⟨S48x2560, .i32⟩
  | 4 => ⟨S48x2560, .bf16⟩
  | 5 => ⟨S6144x2560, .bf16⟩
  | 6 => ⟨S48x128x2560, .bf16⟩
  | 7 => ⟨S48x2560, .bf16⟩
  | 8 => ⟨S48x1x2560, .bf16⟩
  | 9 => ⟨S48x128x2560, .bf16⟩
  | 10 => ⟨S48x128x2560, .bf16⟩
  | 11 => ⟨S48x1x2560, .bf16⟩
  | 12 => ⟨S48x128x2560, .bf16⟩
  | 13 => ⟨S48x128x2560, .bf16⟩
  | 14 => ⟨S6144x2560, .bf16⟩
  | 15 => ⟨S12x128x2560, .f32⟩
  | 16 => ⟨S_, .i32⟩
  | 17 => ⟨S6144x2560, .i32⟩
  | 18 => ⟨S6144x2560, .i32⟩
  | 19 => ⟨S_, .i32⟩
  | 20 => ⟨S6144x2560, .i32⟩
  | 21 => ⟨S6144x2560, .i32⟩
  | 22 => ⟨S_, .i32⟩
  | 23 => ⟨S48x2560, .i32⟩
  | 24 => ⟨S48x2560, .i32⟩
  | 25 => ⟨S_, .i32⟩
  | 26 => ⟨S48x2560, .i32⟩
  | 27 => ⟨S48x2560, .i32⟩
  | 28 => ⟨S48x2560, .bf16⟩
  | 29 => ⟨S6144x2560, .bf16⟩
  | 30 => ⟨S48x128x2560, .bf16⟩
  | 31 => ⟨S48x2560, .bf16⟩
  | 32 => ⟨S48x1x2560, .bf16⟩
  | 33 => ⟨S48x128x2560, .bf16⟩
  | 34 => ⟨S48x128x2560, .bf16⟩
  | 35 => ⟨S48x1x2560, .bf16⟩
  | 36 => ⟨S48x128x2560, .bf16⟩
  | 37 => ⟨S48x128x2560, .bf16⟩
  | 38 => ⟨S6144x2560, .bf16⟩
  | 39 => ⟨S12x128x2560, .f32⟩
  | 40 => ⟨S_, .i32⟩
  | 41 => ⟨S6144x2560, .i32⟩
  | 42 => ⟨S6144x2560, .i32⟩
  | 43 => ⟨S_, .i32⟩
  | 44 => ⟨S6144x2560, .i32⟩
  | 45 => ⟨S6144x2560, .i32⟩
  | 46 => ⟨S_, .i32⟩
  | 47 => ⟨S48x2560, .i32⟩
  | 48 => ⟨S48x2560, .i32⟩
  | 49 => ⟨S_, .i32⟩
  | 50 => ⟨S48x2560, .i32⟩
  | 51 => ⟨S48x2560, .i32⟩
  | 52 => ⟨S48x2560, .bf16⟩
  | 53 => ⟨S6144x2560, .bf16⟩
  | 54 => ⟨S48x128x2560, .bf16⟩
  | 55 => ⟨S48x2560, .bf16⟩
  | 56 => ⟨S48x1x2560, .bf16⟩
  | 57 => ⟨S48x128x2560, .bf16⟩
  | 58 => ⟨S48x128x2560, .bf16⟩
  | 59 => ⟨S48x1x2560, .bf16⟩
  | 60 => ⟨S48x128x2560, .bf16⟩
  | 61 => ⟨S48x128x2560, .bf16⟩
  | 62 => ⟨S6144x2560, .bf16⟩
  | 63 => ⟨S12x128x2560, .f32⟩
  | 64 => ⟨S_, .i32⟩
  | 65 => ⟨S6144x2560, .i32⟩
  | 66 => ⟨S6144x2560, .i32⟩
  | 67 => ⟨S_, .i32⟩
  | 68 => ⟨S6144x2560, .i32⟩
  | 69 => ⟨S6144x2560, .i32⟩
  | 70 => ⟨S_, .i32⟩
  | 71 => ⟨S48x2560, .i32⟩
  | 72 => ⟨S48x2560, .i32⟩
  | 73 => ⟨S_, .i32⟩
  | 74 => ⟨S48x2560, .i32⟩
  | 75 => ⟨S48x2560, .i32⟩
  | 76 => ⟨S48x2560, .bf16⟩
  | 77 => ⟨S6144x2560, .bf16⟩
  | 78 => ⟨S48x128x2560, .bf16⟩
  | 79 => ⟨S48x2560, .bf16⟩
  | 80 => ⟨S48x1x2560, .bf16⟩
  | 81 => ⟨S48x128x2560, .bf16⟩
  | 82 => ⟨S48x128x2560, .bf16⟩
  | 83 => ⟨S48x1x2560, .bf16⟩
  | 84 => ⟨S48x128x2560, .bf16⟩
  | 85 => ⟨S48x128x2560, .bf16⟩
  | 86 => ⟨S6144x2560, .bf16⟩
  | 87 => ⟨S12x128x2560, .f32⟩
  | 88 => ⟨S12x128x2560x1, .f32⟩
  | 89 => ⟨S12x128x2560x1, .f32⟩
  | 90 => ⟨S12x128x2560x1, .f32⟩
  | 91 => ⟨S12x128x2560x1, .f32⟩
  | 92 => ⟨S12x128x2560x1, .f32⟩
  | 93 => ⟨S12x128x2560x1, .f32⟩
  | 94 => ⟨S12x128x2560x1, .f32⟩
  | 95 => ⟨S12x128x2560x1, .f32⟩
  | 96 => ⟨S12x128x2560x8, .f32⟩
  | 97 => ⟨S12x128x20480, .f32⟩
  | 98 => ⟨S1x1x20480, .f32⟩
  | 99 => ⟨S12x128x20480, .f32⟩
  | 100 => ⟨S12x128x20480, .f32⟩
  | 101 => ⟨S12x128x20480, .bf16⟩
  | 102 => ⟨S1536x20480, .bf16⟩
  | _ => ⟨S12x128x6144, .bf16⟩

abbrev hbmTy (i : Nat) : BufTy := match i / 128 with
  | 0 => hbmTy0_0 i
  | 1 => hbmTy0_1 i
  | _ => ⟨S12x128x6144, .bf16⟩

abbrev bufTy : (tb : Table) → Fin (tcTables nBuf tb) → BufTy
  | .hbm, ⟨i, _⟩ => hbmTy i
  | _, _ => ⟨S12x128x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_5 : Ref sig .tc := ⟨.hbm, 48, rfl⟩
abbrev main_v35 : Ref sig .tc := ⟨.hbm, 49, rfl⟩
abbrev main_v36 : Ref sig .tc := ⟨.hbm, 50, rfl⟩
abbrev main_c_6 : Ref sig .tc := ⟨.hbm, 51, rfl⟩
abbrev main_v37 : Ref sig .tc := ⟨.hbm, 52, rfl⟩
abbrev main_v38 : Ref sig .tc := ⟨.hbm, 53, rfl⟩
abbrev main_c_7 : Ref sig .tc := ⟨.hbm, 54, rfl⟩
abbrev main_v39 : Ref sig .tc := ⟨.hbm, 55, rfl⟩
abbrev main_v40 : Ref sig .tc := ⟨.hbm, 56, rfl⟩
abbrev main_c_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_c_9 : Ref sig .tc := ⟨.hbm, 72, rfl⟩
abbrev main_v55 : Ref sig .tc := ⟨.hbm, 73, rfl⟩
abbrev main_v56 : Ref sig .tc := ⟨.hbm, 74, rfl⟩
abbrev main_c_10 : Ref sig .tc := ⟨.hbm, 75, rfl⟩
abbrev main_v57 : Ref sig .tc := ⟨.hbm, 76, rfl⟩
abbrev main_v58 : Ref sig .tc := ⟨.hbm, 77, rfl⟩
abbrev main_c_11 : Ref sig .tc := ⟨.hbm, 78, rfl⟩
abbrev main_v59 : Ref sig .tc := ⟨.hbm, 79, rfl⟩
abbrev main_v60 : Ref sig .tc := ⟨.hbm, 80, rfl⟩
abbrev main_c_12 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_c_13 : Ref sig .tc := ⟨.hbm, 96, rfl⟩
abbrev main_v75 : Ref sig .tc := ⟨.hbm, 97, rfl⟩
abbrev main_v76 : Ref sig .tc := ⟨.hbm, 98, rfl⟩
abbrev main_c_14 : Ref sig .tc := ⟨.hbm, 99, rfl⟩
abbrev main_v77 : Ref sig .tc := ⟨.hbm, 100, rfl⟩
abbrev main_v78 : Ref sig .tc := ⟨.hbm, 101, rfl⟩
abbrev main_c_15 : Ref sig .tc := ⟨.hbm, 102, rfl⟩
abbrev main_v79 : Ref sig .tc := ⟨.hbm, 103, rfl⟩
abbrev main_v80 : Ref sig .tc := ⟨.hbm, 104, rfl⟩
abbrev main_c_16 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_c_17 : Ref sig .tc := ⟨.hbm, 120, rfl⟩
abbrev main_v95 : Ref sig .tc := ⟨.hbm, 121, rfl⟩
abbrev main_v96 : Ref sig .tc := ⟨.hbm, 122, rfl⟩
abbrev main_c_18 : Ref sig .tc := ⟨.hbm, 123, rfl⟩
abbrev main_v97 : Ref sig .tc := ⟨.hbm, 124, rfl⟩
abbrev main_v98 : Ref sig .tc := ⟨.hbm, 125, rfl⟩
abbrev main_c_19 : Ref sig .tc := ⟨.hbm, 126, rfl⟩
abbrev main_v99 : Ref sig .tc := ⟨.hbm, 127, rfl⟩
abbrev main_v100 : Ref sig .tc := ⟨.hbm, 128, rfl⟩
abbrev main_c_20 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_c_21 : Ref sig .tc := ⟨.hbm, 144, rfl⟩
abbrev main_v115 : Ref sig .tc := ⟨.hbm, 145, rfl⟩
abbrev main_v116 : Ref sig .tc := ⟨.hbm, 146, rfl⟩
abbrev main_c_22 : Ref sig .tc := ⟨.hbm, 147, rfl⟩
abbrev main_v117 : Ref sig .tc := ⟨.hbm, 148, rfl⟩
abbrev main_v118 : Ref sig .tc := ⟨.hbm, 149, rfl⟩
abbrev main_c_23 : Ref sig .tc := ⟨.hbm, 150, rfl⟩
abbrev main_v119 : Ref sig .tc := ⟨.hbm, 151, rfl⟩
abbrev main_v120 : Ref sig .tc := ⟨.hbm, 152, rfl⟩
abbrev main_c_24 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_c_25 : Ref sig .tc := ⟨.hbm, 168, rfl⟩
abbrev main_v135 : Ref sig .tc := ⟨.hbm, 169, rfl⟩
abbrev main_v136 : Ref sig .tc := ⟨.hbm, 170, rfl⟩
abbrev main_c_26 : Ref sig .tc := ⟨.hbm, 171, rfl⟩
abbrev main_v137 : Ref sig .tc := ⟨.hbm, 172, rfl⟩
abbrev main_v138 : Ref sig .tc := ⟨.hbm, 173, rfl⟩
abbrev main_c_27 : Ref sig .tc := ⟨.hbm, 174, rfl⟩
abbrev main_v139 : Ref sig .tc := ⟨.hbm, 175, rfl⟩
abbrev main_v140 : Ref sig .tc := ⟨.hbm, 176, rfl⟩
abbrev main_c_28 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_c_29 : Ref sig .tc := ⟨.hbm, 192, rfl⟩
abbrev main_v155 : Ref sig .tc := ⟨.hbm, 193, rfl⟩
abbrev main_v156 : Ref sig .tc := ⟨.hbm, 194, rfl⟩
abbrev main_c_30 : Ref sig .tc := ⟨.hbm, 195, rfl⟩
abbrev main_v157 : Ref sig .tc := ⟨.hbm, 196, rfl⟩
abbrev main_v158 : Ref sig .tc := ⟨.hbm, 197, rfl⟩
abbrev main_c_31 : Ref sig .tc := ⟨.hbm, 198, rfl⟩
abbrev main_v159 : Ref sig .tc := ⟨.hbm, 199, rfl⟩
abbrev main_v160 : Ref sig .tc := ⟨.hbm, 200, rfl⟩
abbrev main_c_32 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_v183 : Ref sig .tc := ⟨.hbm, 224, rfl⟩
abbrev main_v184 : Ref sig .tc := ⟨.hbm, 225, rfl⟩
abbrev main_v185 : Ref sig .tc := ⟨.hbm, 226, rfl⟩
abbrev main_v186 : Ref sig .tc := ⟨.hbm, 227, rfl⟩
abbrev main_v187 : Ref sig .tc := ⟨.hbm, 228, rfl⟩
abbrev main_v188 : Ref sig .tc := ⟨.hbm, 229, rfl⟩
abbrev main_v189 : Ref sig .tc := ⟨.hbm, 230, rfl⟩

abbrev nD : Nat := 1
abbrev τ : Topo := Topo.v7x

variable {F : FTy → Type} [FloatOps F]
-- ==== Proof.KConds.lean ====
/- The kernel's frame at any float instance: what the four cases of its body share. -/
module

public import proofs.«01_k».proof.Proof.Gen.Kernel.Frame
public import proofs.«01_k».proof.Proof.Gen.Kernel.Skeleton
public import proofs.«01_k».proof.Proof.Gen.Kernel.Loops
public import Idealize.ShloMosaic.Lib.Claim

@[expose] public section

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points before point 3 — by arithmetic of the point. -/
theorem hcond0_0 : ∀ t : Fin cfg0.N, cond0_0 (grid0.coords t) ↔ t.val < 3 :=
  (fun t => by
    have ht : t.val < 60 := Nat.lt_of_lt_of_eq t.isLt N_0
    have e0 : (grid0.coords t 0).val = t.val / 3 % 20 := Pipeline.Grid.coords_val t 0 (by decide) rfl
    have e1 : (grid0.coords t 1).val = t.val / 1 % 3 := Pipeline.Grid.coords_val t 1 (by decide) rfl
    simp only [cond0_0, k0_cond1, e0, e1]
    word_cmp
   : ∀ t : Fin grid0.N, cond0_0 (grid0.coords t) ↔ t.val < 3)

/-- The condition of the body's `scf.if` 1 (`k0_h2`), from the grid coordinates (the skeleton's scalar
    chain substituted). -/
abbrev cond0_1 (i : grid0.Coords) : Prop := k0_cond2 i = 1#1
/-- It holds at the points ≡ 0 (mod 3) — by arithmetic of the point. -/
theorem hcond0_1 : ∀ t : Fin cfg0.N, cond0_1 (grid0.coords t) ↔ t.val % 3 = 0 :=
  (fun t => by
    have ht : t.val < 60 := Nat.lt_of_lt_of_eq t.isLt N_0
    have e0 : (grid0.coords t 0).val = t.val / 3 % 20 := Pipeline.Grid.coords_val t 0 (by decide) rfl
    have e1 : (grid0.coords t 1).val = t.val / 1 % 3 := Pipeline.Grid.coords_val t 1 (by decide) rfl
    simp only [cond0_1, k0_cond2, e0, e1]
    word_cmp
   : ∀ t : Fin grid0.N, cond0_1 (grid0.coords t) ↔ t.val % 3 = 0)

/-! ## The kernel body on any staging memrefs: a subtype the run finds -/

/-- Each window's current staging memref at point `t`, spelled as the pipeline passes it (`bodyAt0`), and its wholeness. -/
abbrev ms0_0 (t : Fin cfg0.N) : Memref sig .tc .vmem S512x6144 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x6144 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S6144x128 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S48x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S48x128 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1024 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S1536x6144 .bf16 := Memref.whole cc0_scratch0
abbrev scM0_1 : Memref sig .tc .vmem S6144x1024 .bf16 := Memref.whole cc0_scratch1
abbrev scM0_2 : Memref sig .tc .vmem S8x48x128 .i32 := Memref.whole cc0_scratch2
abbrev scM0_3 : Memref sig .tc .vmem S8x48x128 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Frm

end
-- ==== Proof.KRunA.lean ====
/- The kernel's body, run in case A of its two conditions: no fault, every buffer handed back. -/
module

public import proofs.«01_k».proof.Proof.KConds

@[expose] public section

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE A (`scf.if` 0 taken, `scf.if` 1 taken: points 0): on whole staging memrefs — the inputs' at their contents,
    the FORGOTTEN outputs' (6) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .vmem S512x6144 .bf16) (harg2 : arg2.IsWhole) (arg3 : Memref sig .tc .vmem S1x6144 .f32) (harg3 : arg3.IsWhole) (arg4 : Memref sig .tc .vmem S1x1024 .f32) (harg4 : arg4.IsWhole) (arg5 : Memref sig .tc .vmem S6144x128 .i32) (harg5 : arg5.IsWhole) (arg6 : Memref sig .tc .vmem S48x1024 .bf16) (harg6 : arg6.IsWhole) (arg7 : Memref sig .tc .vmem S48x128 .i32) (harg7 : arg7.IsWhole) (arg8 : Memref sig .tc .vmem S512x1024 .bf16) (harg8 : arg8.IsWhole) (arg9 : Memref sig .tc .vmem S1536x6144 .bf16) (harg9 : arg9.IsWhole) (arg10 : Memref sig .tc .vmem S6144x1024 .bf16) (harg10 : arg10.IsWhole) (arg11 : Memref sig .tc .vmem S8x48x128 .i32) (harg11 : arg11.IsWhole) (arg12 : Memref sig .tc .vmem S8x48x128 .f32) (harg12 : arg12.IsWhole) (hc0 : cond0_0 i) (hc1 : cond0_1 i)
    (x0 : Vec F S512x6144 .bf16) (x1 : Vec F S1x6144 .f32) (x2 : Vec F S1x1024 .f32) (x3 : Vec F S6144x128 .i32) (x4 : Vec F S48x1024 .bf16) (x5 : Vec F S48x128 .i32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_rmsnorm_awq_linear i arg2 harg2 arg3 harg3 arg4 harg4 arg5 harg5 arg6 harg6 arg7 harg7 arg8 harg8 arg9 harg9 arg10 harg10 arg11 harg11 arg12 harg12) K := by
    intro E K
    simp only [cc0_rmsnorm_awq_linear_eq_skeleton]; unfold cc0_rmsnorm_awq_linear_skel
    simp only [k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Frm

end
-- ==== Proof.KRunB.lean ====
/- The kernel's body, run in case B of its two conditions: no fault, every buffer handed back. -/
module

public import proofs.«01_k».proof.Proof.KRunA

@[expose] public section

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE B (`scf.if` 0 taken, `scf.if` 1 not taken: points 1, 2): on whole staging memrefs — the inputs' at their contents,
    the FORGOTTEN outputs' (6) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .vmem S512x6144 .bf16) (harg2 : arg2.IsWhole) (arg3 : Memref sig .tc .vmem S1x6144 .f32) (harg3 : arg3.IsWhole) (arg4 : Memref sig .tc .vmem S1x1024 .f32) (harg4 : arg4.IsWhole) (arg5 : Memref sig .tc .vmem S6144x128 .i32) (harg5 : arg5.IsWhole) (arg6 : Memref sig .tc .vmem S48x1024 .bf16) (harg6 : arg6.IsWhole) (arg7 : Memref sig .tc .vmem S48x128 .i32) (harg7 : arg7.IsWhole) (arg8 : Memref sig .tc .vmem S512x1024 .bf16) (harg8 : arg8.IsWhole) (arg9 : Memref sig .tc .vmem S1536x6144 .bf16) (harg9 : arg9.IsWhole) (arg10 : Memref sig .tc .vmem S6144x1024 .bf16) (harg10 : arg10.IsWhole) (arg11 : Memref sig .tc .vmem S8x48x128 .i32) (harg11 : arg11.IsWhole) (arg12 : Memref sig .tc .vmem S8x48x128 .f32) (harg12 : arg12.IsWhole) (hc0 : cond0_0 i) (hc1 : ¬cond0_1 i)
    (x0 : Vec F S512x6144 .bf16) (x1 : Vec F S1x6144 .f32) (x2 : Vec F S1x1024 .f32) (x3 : Vec F S6144x128 .i32) (x4 : Vec F S48x1024 .bf16) (x5 : Vec F S48x128 .i32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_rmsnorm_awq_linear i arg2 harg2 arg3 harg3 arg4 harg4 arg5 harg5 arg6 harg6 arg7 harg7 arg8 harg8 arg9 harg9 arg10 harg10 arg11 harg11 arg12 harg12) K := by
    intro E K
    simp only [cc0_rmsnorm_awq_linear_eq_skeleton]; unfold cc0_rmsnorm_awq_linear_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Frm

end
-- ==== Proof.KRunC.lean ====
/- The kernel's body, run in case C of its two conditions: no fault, every buffer handed back. -/
module

public import proofs.«01_k».proof.Proof.KRunB

@[expose] public section

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE C (`scf.if` 0 not taken, `scf.if` 1 taken: points 3, 6, … 57: 19 of 60): on whole staging memrefs — the inputs' at their contents,
    the FORGOTTEN outputs' (6) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_C (c : Dev nD) (i : grid0.Coords) (arg2 : Memref sig .tc .vmem S512x6144 .bf16) (harg2 : arg2.IsWhole) (arg3 : Memref sig .tc .vmem S1x6144 .f32) (harg3 : arg3.IsWhole) (arg4 : Memref sig .tc .vmem S1x1024 .f32) (harg4 : arg4.IsWhole) (arg5 : Memref sig .tc .vmem S6144x128 .i32) (harg5 : arg5.IsWhole) (arg6 : Memref sig .tc .vmem S48x1024 .bf16) (harg6 : arg6.IsWhole) (arg7 : Memref sig .tc .vmem S48x128 .i32) (harg7 : arg7.IsWhole) (arg8 : Memref sig .tc .vmem S512x1024 .bf16) (harg8 : arg8.IsWhole) (arg9 : Memref sig .tc .vmem S1536x6144 .bf16) (harg9 : arg9.IsWhole) (arg10 : Memref sig .tc .vmem S6144x1024 .bf16) (harg10 : arg10.IsWhole) (arg11 : Memref sig .tc .vmem S8x48x128 .i32) (harg11 : arg11.IsWhole) (arg12 : Memref sig .tc .vmem S8x48x128 .f32) (harg12 : arg12.IsWhole) (hc0 : ¬cond0_0 i) (hc1 : cond0_1 i)
    (x0 : Vec F S512x6144 .bf16) (x1 : Vec F S1x6144 .f32) (x2 : Vec F S1x1024 .f32) (x3 : Vec F S6144x128 .i32) (x4 : Vec F S48x1024 .bf16) (x5 : Vec F S48x128 .i32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_rmsnorm_awq_linear i arg2 harg2 arg3 harg3 arg4 harg4 arg5 harg5 arg6 harg6 arg7 harg7 arg8 harg8 arg9 harg9 arg10 harg10 arg11 harg11 arg12 harg12) K := by
    intro E K
    simp only [cc0_rmsnorm_awq_linear_eq_skeleton]; unfold cc0_rmsnorm_awq_linear_skel
    simp only [k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Frm

end
-- ==== Proof.KRunD.lean ====
/- The kernel's body, run in case D of its two conditions: no fault, every buffer handed back. -/
module

public import proofs.«01_k».proof.Proof.KRunC

@[expose] public section

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE D (`scf.if` 0 not taken, `scf.if` 1 not taken: points 4, 5, … 59: 38 of 60): on whole staging memrefs — the inputs' at their contents,
    the FORGOTTEN outputs' (6) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_D (c : Dev nD) (i : grid0.Coords) (arg2 : Memref sig .tc .vmem S512x6144 .bf16) (harg2 : arg2.IsWhole) (arg3 : Memref sig .tc .vmem S1x6144 .f32) (harg3 : arg3.IsWhole) (arg4 : Memref sig .tc .vmem S1x1024 .f32) (harg4 : arg4.IsWhole) (arg5 : Memref sig .tc .vmem S6144x128 .i32) (harg5 : arg5.IsWhole) (arg6 : Memref sig .tc .vmem S48x1024 .bf16) (harg6 : arg6.IsWhole) (arg7 : Memref sig .tc .vmem S48x128 .i32) (harg7 : arg7.IsWhole) (arg8 : Memref sig .tc .vmem S512x1024 .bf16) (harg8 : arg8.IsWhole) (arg9 : Memref sig .tc .vmem S1536x6144 .bf16) (harg9 : arg9.IsWhole) (arg10 : Memref sig .tc .vmem S6144x1024 .bf16) (harg10 : arg10.IsWhole) (arg11 : Memref sig .tc .vmem S8x48x128 .i32) (harg11 : arg11.IsWhole) (arg12 : Memref sig .tc .vmem S8x48x128 .f32) (harg12 : arg12.IsWhole) (hc0 : ¬cond0_0 i) (hc1 : ¬cond0_1 i)
    (x0 : Vec F S512x6144 .bf16) (x1 : Vec F S1x6144 .f32) (x2 : Vec F S1x1024 .f32) (x3 : Vec F S6144x128 .i32) (x4 : Vec F S48x1024 .bf16) (x5 : Vec F S48x128 .i32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_rmsnorm_awq_linear i arg2 harg2 arg3 harg3 arg4 harg4 arg5 harg5 arg6 harg6 arg7 harg7 arg8 harg8 arg9 harg9 arg10 harg10 arg11 harg11 arg12 harg12) K := by
    intro E K
    simp only [cc0_rmsnorm_awq_linear_eq_skeleton]; unfold cc0_rmsnorm_awq_linear_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Frm

end
-- ==== Proof.KFrame.lean ====
/- The kernel's frame at any float instance: its arguments end unchanged and every counter ends at zero. -/
module

public import proofs.«01_k».proof.Proof.KRunD

@[expose] public section

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (6): nothing reads what the kernel leaves in them, so nothing
    of it is named (Lib/Pipeline/Dat.lean `Dat.toRForget`). -/
def forgets0 : Fin 7 → Bool := fun w => w.val == 6

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d))

set_option maxHeartbeats 3200000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  have hN : t.val < 60 := lt_of_lt_of_eq t.isLt (show cfg0.N = 60 from N_0)
  by_cases h0 : t.val < 3
  · by_cases h1 : t.val % 3 = 0
    · iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ _ _ _ _ ((hcond0_0 t).mpr h0) ((hcond0_1 t).mpr h1) (iblk m c 0 t) (iblk m c 1 t) (iblk m c 2 t) (iblk m c 3 t) (iblk m c 4 t) (iblk m c 5 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      isplitl [HS3]; · iexact HS3
      iintro ⟨H0, H1, H2, H3, H4, H5, H6, HS0, HS1, HS2, HS3⟩
      isplitl [HS0 HS1 HS2 HS3 Hg]
      · isplitl [HS0 HS1 HS2 HS3]
        · isplitl [HS0]
          · iexact HS0
          isplitl [HS1]
          · iexact HS1
          isplitl [HS2]
          · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      isplitl [HS3]; · iexact HS3
      iintro ⟨H0, H1, H2, H3, H4, H5, H6, HS0, HS1, HS2, HS3⟩
      isplitl [HS0 HS1 HS2 HS3 Hg]
      · isplitl [HS0 HS1 HS2 HS3]
        · isplitl [HS0]
          · iexact HS0
          isplitl [HS1]
          · iexact HS1
          isplitl [HS2]
          · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · by_cases h1 : t.val % 3 = 0
    · iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      isplitl [HS3]; · iexact HS3
      iintro ⟨H0, H1, H2, H3, H4, H5, H6, HS0, HS1, HS2, HS3⟩
      isplitl [HS0 HS1 HS2 HS3 Hg]
      · isplitl [HS0 HS1 HS2 HS3]
        · isplitl [HS0]
          · iexact HS0
          isplitl [HS1]
          · iexact HS1
          isplitl [HS2]
          · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_D c (grid0.coords t) _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      isplitl [HS3]; · iexact HS3
      iintro ⟨H0, H1, H2, H3, H4, H5, H6, HS0, HS1, HS2, HS3⟩
      isplitl [HS0 HS1 HS2 HS3 Hg]
      · isplitl [HS0 HS1 HS2 HS3]
        · isplitl [HS0]
          · iexact HS0
          isplitl [HS1]
          · iexact HS1
          isplitl [HS2]
          · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 6) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (fun c => (dats m 0 c).toRForget forgets0) (A_eq m) (run_main m ρ)

/-- THE FRAME: `Cert.quiescent_Kernel`'s statement at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Frm

end
-- ==== Proof.Word.lean ====
module

public import Idealize.ShloMosaic.Lib.IdealHost
public import Idealize.ShloMosaic.PureOps.Ideal.Laws
public import Mathlib.Tactic.IntervalCases
public import Mathlib.Tactic.NormNum

@[expose] public section

noncomputable section

namespace Cert.Words

open Idealize.ShloMosaic

/-- The four-bit field number `f` of a packed word. -/
def nib (w : BitVec 32) (f : ℕ) : BitVec 32 := (w >>> (4 * f)) &&& 15#32

/-- The bf16 pattern the kernel makes of a four-bit code: the pattern of 128 with the code in the low bits of the significand. -/
def pat (n : BitVec 32) : BitVec 16 := 0x4300#16 ||| n.setWidth 16

/-- Two rows of packed words, their low halves put side by side: the first row's below, the second's above. -/
def lows (a b : BitVec 32) : BitVec 32 := (a &&& 65535#32) ||| (b <<< (16 : ℕ))

/-- Two rows of packed words, their high halves put side by side: the first row's below, the second's above. -/
def highs (a b : BitVec 32) : BitVec 32 := (a >>> (16 : ℕ)) ||| (b &&& 4294901760#32)

/-- The kernel's word of two codes: shifted, masked and given the exponent of 128 in each half. -/
def codes (p : BitVec 32) (t : ℕ) : BitVec 32 := ((p >>> (4 * t)) &&& 983055#32) ||| 1124090624#32

/-- One four-bit field as a word of two equal codes. -/
def twice (n : BitVec 32) : BitVec 32 := (n ||| (n <<< (16 : ℕ))) ||| 1124090624#32

/-- Low half of the codes of the low halves: the first row's field `t`. -/
theorem codes_lows_0 (a b : BitVec 32) (t : ℕ) (ht : t < 4) : (codes (lows a b) t).extractLsb' 0 16 = pat (nib a t) := by
  apply BitVec.eq_of_getLsbD_eq
  intro i hi
  unfold codes lows pat nib
  interval_cases t <;> interval_cases i <;> simp

/-- High half of the codes of the low halves: the second row's field `t`. -/
theorem codes_lows_1 (a b : BitVec 32) (t : ℕ) (ht : t < 4) : (codes (lows a b) t).extractLsb' 16 16 = pat (nib b t) := by
  apply BitVec.eq_of_getLsbD_eq
  intro i hi
  unfold codes lows pat nib
  interval_cases t <;> interval_cases i <;> simp

/-- Low half of the codes of the high halves: the first row's field `t + 4`. -/
theorem codes_highs_0 (a b : BitVec 32) (t : ℕ) (ht : t < 4) : (codes (highs a b) t).extractLsb' 0 16 = pat (nib a (t + 4)) := by
  apply BitVec.eq_of_getLsbD_eq
  intro i hi
  unfold codes highs pat nib
  interval_cases t <;> interval_cases i <;> simp

/-- High half of the codes of the high halves: the second row's field `t + 4`. -/
theorem codes_highs_1 (a b : BitVec 32) (t : ℕ) (ht : t < 4) : (codes (highs a b) t).extractLsb' 16 16 = pat (nib b (t + 4)) := by
  apply BitVec.eq_of_getLsbD_eq
  intro i hi
  unfold codes highs pat nib
  interval_cases t <;> interval_cases i <;> simp

/-- Field `t` of the low half of a zero-point word. -/
theorem nib_low (z : BitVec 32) (t : ℕ) (ht : t < 4) : ((z &&& 65535#32) >>> (4 * t)) &&& 15#32 = nib z t := by
  apply BitVec.eq_of_getLsbD_eq
  intro i hi
  unfold nib
  interval_cases t <;> interval_cases i <;> simp

/-- Field `t` of the high half of a zero-point word. -/
theorem nib_high (z : BitVec 32) (t : ℕ) (ht : t < 4) : ((z >>> (16 : ℕ)) >>> (4 * t)) &&& 15#32 = nib z (t + 4) := by
  apply BitVec.eq_of_getLsbD_eq
  intro i hi
  unfold nib
  interval_cases t <;> interval_cases i <;> simp

/-- Either half of a doubled code is the code's pattern. -/
theorem twice_half (z : BitVec 32) (f : ℕ) (h : ℕ) (hh : h < 2) : (twice (nib z f)).extractLsb' (16 * h) 16 = pat (nib z f) := by
  apply BitVec.eq_of_getLsbD_eq
  intro i hi
  unfold twice pat nib
  interval_cases h <;> interval_cases i <;> simp

/-- A four-bit field is below sixteen. -/
theorem nib_lt (w : BitVec 32) (f : ℕ) : (nib w f).toNat < 16 := by
  unfold nib
  rw [BitVec.toNat_and]
  exact Nat.lt_of_le_of_lt Nat.and_le_right (by decide)

/-- The pattern of a code below sixteen is the real number 128 plus the code. -/
theorem ofBits_pat (n : BitVec 32) (hn : n.toNat < 16) : Ideal.ofBits .bf16 (pat n) = ((128 + (n.toNat : ℝ) : ℝ) : EReal) := by
  obtain ⟨k, hk⟩ : ∃ k : ℕ, k = n.toNat := ⟨_, rfl⟩
  have e : n = BitVec.ofNat 32 k := by rw [hk]; simp
  rw [← hk] at hn ⊢
  subst e
  clear hk
  unfold pat
  interval_cases k <;> (simp [Ideal.ofBits, Ideal.ieee, -EReal.coe_mul, -EReal.coe_add] <;> try norm_num)

/-- A code minus a zero point, as the kernel computes it and as the integers' difference. -/
theorem pat_sub (w z : BitVec 32) (f : ℕ) :
    Ideal.ofBits .bf16 (pat (nib w f)) - Ideal.ofBits .bf16 (pat (nib z f))
      = (((nib w f).toInt : ℝ) : EReal) - (((nib z f).toInt : ℝ) : EReal) := by
  have hw := nib_lt w f
  have hz := nib_lt z f
  rw [ofBits_pat _ hw, ofBits_pat _ hz]
  rw [BitVec.toInt_eq_toNat_of_lt (by omega), BitVec.toInt_eq_toNat_of_lt (by omega)]
  rw [← EReal.coe_sub, ← EReal.coe_sub]
  congr 1
  push_cast
  ring

end Cert.Words

end
-- ==== Proof.Blocks.lean ====
module

public import proofs.«01_k».proof.Proof.Gen.KernelIdeal.Frame
public import proofs.«01_k».proof.Proof.Gen.KernelIdeal.Loops
public import proofs.«01_k».proof.Proof.Gen.KernelIdeal.Points
public import Idealize.ShloMosaic.Lib.Claim
public import Idealize.ShloMosaic.Lib.BitcastPair
public import Idealize.ShloMosaic.Lib.KernelVsHost
public import Idealize.ShloMosaic.Lib.Pointwise
public import proofs.«01_k».proof.Proof.Word

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Words

/-- The shift word of lane `l`: four times the field's number within its half word. -/
theorem pay8_apply (q : Fin 64) (l : Fin 128) : k0_pay8 (ix2 q l) = BitVec.ofNat 32 (4 * (l.val % 8 / 2)) := by
  have h : ∀ l : Fin 128, IntOp.shli .vector (IntOp.shrsi .vector (IntOp.andi (BitVec.ofNat 32 (0 * 128 + l.val)) 7#32) 1#32) 2#32
      = BitVec.ofNat 32 (4 * (l.val % 8 / 2)) := by decide
  exact h l

/-- The gathered lane of lane `l` before the block's offset: its word number, in the upper half of the lanes for the odd fields. -/
theorem pay9_apply (q : Fin 64) (l : Fin 128) : k0_pay9 (ix2 q l) = BitVec.ofNat 32 (l.val / 8 + l.val % 2 * 64) := by
  have h : ∀ l : Fin 128, IntOp.addi (IntOp.shrsi .vector (BitVec.ofNat 32 (0 * 128 + l.val)) 3#32)
      (IntOp.muli (IntOp.andi (IntOp.andi (BitVec.ofNat 32 (0 * 128 + l.val)) 7#32) 1#32) 64#32)
      = BitVec.ofNat 32 (l.val / 8 + l.val % 2 * 64) := by decide
  exact h l

theorem pay34_apply (q : Fin 48) (l : Fin 128) : k0_pay34 (ix2 q l) = BitVec.ofNat 32 (4 * (l.val % 8 / 2)) := by
  have h : ∀ l : Fin 128, IntOp.shli .vector (IntOp.shrsi .vector (IntOp.andi (BitVec.ofNat 32 (0 * 128 + l.val)) 7#32) 1#32) 2#32
      = BitVec.ofNat 32 (4 * (l.val % 8 / 2)) := by decide
  exact h l

theorem pay35_apply (q : Fin 48) (l : Fin 128) : k0_pay35 (ix2 q l) = BitVec.ofNat 32 (l.val / 8 + l.val % 2 * 64) := by
  have h : ∀ l : Fin 128, IntOp.addi (IntOp.shrsi .vector (BitVec.ofNat 32 (0 * 128 + l.val)) 3#32)
      (IntOp.muli (IntOp.andi (IntOp.andi (BitVec.ofNat 32 (0 * 128 + l.val)) 7#32) 1#32) 64#32)
      = BitVec.ofNat 32 (l.val / 8 + l.val % 2 * 64) := by decide
  exact h l

/-- The word of two codes of a block of 128 columns, as the kernel computes it: a lane gathered, shifted, masked. -/
def codeW (c : BitVec 32) (src : IVec S64x128 32) : IVec S64x128 32 :=
  ori (andi (shrui (dynamicGather 1 src (shapeCast S64x128 (shapeCast S64x128x1
    (select (cmpi .slt (addi k0_pay9 (broadcast S64x128 c)) (broadcast S64x128 0#32))
      (addi (addi k0_pay9 (broadcast S64x128 c)) (broadcast S64x128 128#32)) (addi k0_pay9 (broadcast S64x128 c)))
    shapeCasts_S64x128_S64x128x1) shapeCasts_S64x128x1_S64x128)) k0_pay8) (broadcast S64x128 983055#32)) (broadcast S64x128 1124090624#32)

/-- The lane a block gathers: never negative, so the wrap is the identity. -/
theorem lane_of (l : Fin 128) (c : Fin 4) :
    (Scalar.select (IntOp.cmpi .slt (IntOp.addi (BitVec.ofNat 32 (l.val / 8 + l.val % 2 * 64)) (BitVec.ofNat 32 (16 * c.val))) 0#32)
      (IntOp.addi (IntOp.addi (BitVec.ofNat 32 (l.val / 8 + l.val % 2 * 64)) (BitVec.ofNat 32 (16 * c.val))) 128#32)
      (IntOp.addi (BitVec.ofNat 32 (l.val / 8 + l.val % 2 * 64)) (BitVec.ofNat 32 (16 * c.val)))).toNat % 128
      = l.val / 8 + l.val % 2 * 64 + 16 * c.val := by
  revert l c; decide

/-- A shift by a lane's shift word. -/
theorem shift_of (l : Fin 128) (w : BitVec 32) : IntOp.shrui .vector w (BitVec.ofNat 32 (4 * (l.val % 8 / 2))) = w >>> (4 * (l.val % 8 / 2)) := by
  have h : (BitVec.ofNat 32 (4 * (l.val % 8 / 2))).toNat = 4 * (l.val % 8 / 2) := by
    rw [BitVec.toNat_ofNat]; omega
  unfold IntOp.shrui
  rw [if_pos (by rw [h]; omega), BitVec.ushiftRight_eq', h]

theorem codeW_apply (c : Fin 4) (src : IVec S64x128 32) (q : Fin 64) (l : Fin 128) :
    codeW (BitVec.ofNat 32 (16 * c.val)) src (ix2 q l)
      = codes (src (ix2 q ⟨l.val / 8 + l.val % 2 * 64 + 16 * c.val, by omega⟩)) (l.val % 8 / 2) := by
  unfold codeW
  rw [shapeCast_shapeCast]
  show IntOp.ori (IntOp.andi (IntOp.shrui .vector (src _) (k0_pay8 (ix2 q l))) 983055#32) 1124090624#32 = _
  rw [pay8_apply, shift_of]
  show codes _ _ = _
  congr 2
  funext b
  match b with
  | ⟨0, _⟩ => rfl
  | ⟨1, _⟩ =>
    apply Fin.ext
    have h := lane_of l c
    rw [← pay9_apply q l] at h
    exact h

/-- The field a lane takes: the even columns the low half's, the odd columns the high half's. -/
abbrev fld (l : ℕ) : ℕ := l % 8 / 2 + 4 * (l % 2)

theorem slt64 (j : Fin 128) : IntOp.cmpi .slt (BitVec.ofNat 32 (0 * 128 + j.val)) 64#32 = if j.val < 64 then 1#1 else 0#1 := by
  revert j; decide

/-- Half words laid side by side: the low halves' lanes below 64, the high halves' rolled above. -/
theorem pay11_apply (a b : Vec Ideal S64x128 .i32) (q : Fin 64) (j : Fin 128) :
    k0_pay11 (F := Ideal) a b (ix2 q j)
      = if h : j.val < 64 then lows (a (ix2 q j)) (b (ix2 q j))
        else highs (a (ix2 q ⟨j.val - 64, by omega⟩)) (b (ix2 q ⟨j.val - 64, by omega⟩)) := by
  show Scalar.select (IntOp.cmpi .slt (BitVec.ofNat 32 (0 * 128 + j.val)) 64#32) (lows (a (ix2 q j)) (b (ix2 q j)))
    (dynamicRotate 1 64#32 none (k0_pay6 (F := Ideal) a b) rotates_S64x128_d1 (ix2 q j)) = _
  rw [slt64]
  by_cases h : j.val < 64
  · rw [if_pos h, dif_pos h]; rfl
  · rw [if_neg h, dif_neg h]
    show dynamicRotate 1 64#32 none (k0_pay6 (F := Ideal) a b) rotates_S64x128_d1 (ix2 q j) = _
    rw [dynamicRotate_apply 1 64#32 (k0_pay6 (F := Ideal) a b) rotates_S64x128_d1 (ix2 q j) (ix2 q ⟨j.val - 64, by omega⟩)
      (fun e => by
        match e with
        | ⟨0, _⟩ => rfl
        | ⟨1, _⟩ =>
          show j.val - 64 = (j.val + 128 - 64 % 128) % 128
          omega)]
    rfl

/-- The other arrangement: the low halves' lanes from 64 on rolled below, the high halves' lanes above. -/
theorem pay12_apply (a b : Vec Ideal S64x128 .i32) (q : Fin 64) (j : Fin 128) :
    k0_pay12 (F := Ideal) a b (ix2 q j)
      = if h : j.val < 64 then lows (a (ix2 q ⟨j.val + 64, by omega⟩)) (b (ix2 q ⟨j.val + 64, by omega⟩))
        else highs (a (ix2 q j)) (b (ix2 q j)) := by
  show Scalar.select (IntOp.cmpi .slt (BitVec.ofNat 32 (0 * 128 + j.val)) 64#32)
    (dynamicRotate 1 64#32 none (k0_pay5 (F := Ideal) a b) rotates_S64x128_d1 (ix2 q j)) (highs (a (ix2 q j)) (b (ix2 q j))) = _
  rw [slt64]
  by_cases h : j.val < 64
  · rw [if_pos h, dif_pos h]
    show dynamicRotate 1 64#32 none (k0_pay5 (F := Ideal) a b) rotates_S64x128_d1 (ix2 q j) = _
    rw [dynamicRotate_apply 1 64#32 (k0_pay5 (F := Ideal) a b) rotates_S64x128_d1 (ix2 q j) (ix2 q ⟨j.val + 64, by omega⟩)
      (fun e => by
        match e with
        | ⟨0, _⟩ => rfl
        | ⟨1, _⟩ =>
          show j.val + 64 = (j.val + 128 - 64 % 128) % 128
          omega)]
    rfl
  · rw [if_neg h, dif_neg h]; rfl

/-- A half of a block's word of codes, blocks of the low four: the pattern of the lane's field of the packed word in that row. -/
theorem codeW_lo (c : Fin 4) (a b : Vec Ideal S64x128 .i32) (q : Fin 64) (l : Fin 128) (h : Fin 2) :
    (codeW (BitVec.ofNat 32 (16 * c.val)) (k0_pay11 (F := Ideal) a b) (ix2 q l)).extractLsb' (16 * h.val) 16
      = pat (nib ((if h.val = 0 then a else b) (ix2 q ⟨16 * c.val + l.val / 8, by omega⟩)) (fld l.val)) := by
  rw [codeW_apply, pay11_apply]
  have ht : l.val % 8 / 2 < 4 := by omega
  by_cases he : l.val % 2 = 0
  · have hlt : l.val / 8 + l.val % 2 * 64 + 16 * c.val < 64 := by omega
    rw [dif_pos hlt]
    have e1 : (⟨l.val / 8 + l.val % 2 * 64 + 16 * c.val, by omega⟩ : Fin 128) = ⟨16 * c.val + l.val / 8, by omega⟩ := Fin.ext (by dsimp only; omega)
    have e2 : fld l.val = l.val % 8 / 2 := by unfold fld; omega
    rw [e1, e2]
    match h with
    | ⟨0, _⟩ => exact codes_lows_0 _ _ _ ht
    | ⟨1, _⟩ => exact codes_lows_1 _ _ _ ht
  · have hlt : ¬ l.val / 8 + l.val % 2 * 64 + 16 * c.val < 64 := by omega
    rw [dif_neg hlt]
    have e1 : (⟨l.val / 8 + l.val % 2 * 64 + 16 * c.val - 64, by omega⟩ : Fin 128) = ⟨16 * c.val + l.val / 8, by omega⟩ := Fin.ext (by dsimp only; omega)
    have e2 : fld l.val = l.val % 8 / 2 + 4 := by unfold fld; omega
    rw [e2]
    show BitVec.extractLsb' _ _ (codes (highs (a (ix2 q ⟨l.val / 8 + l.val % 2 * 64 + 16 * c.val - 64, _⟩)) (b (ix2 q ⟨l.val / 8 + l.val % 2 * 64 + 16 * c.val - 64, _⟩))) _) = _
    rw [e1]
    match h with
    | ⟨0, _⟩ => exact codes_highs_0 _ _ _ ht
    | ⟨1, _⟩ => exact codes_highs_1 _ _ _ ht

/-- The same for the blocks of the high four. -/
theorem codeW_hi (c : Fin 4) (a b : Vec Ideal S64x128 .i32) (q : Fin 64) (l : Fin 128) (h : Fin 2) :
    (codeW (BitVec.ofNat 32 (16 * c.val)) (k0_pay12 (F := Ideal) a b) (ix2 q l)).extractLsb' (16 * h.val) 16
      = pat (nib ((if h.val = 0 then a else b) (ix2 q ⟨16 * (c.val + 4) + l.val / 8, by omega⟩)) (fld l.val)) := by
  rw [codeW_apply, pay12_apply]
  have ht : l.val % 8 / 2 < 4 := by omega
  by_cases he : l.val % 2 = 0
  · have hlt : l.val / 8 + l.val % 2 * 64 + 16 * c.val < 64 := by omega
    rw [dif_pos hlt]
    have e1 : (⟨l.val / 8 + l.val % 2 * 64 + 16 * c.val + 64, by omega⟩ : Fin 128) = ⟨16 * (c.val + 4) + l.val / 8, by omega⟩ := Fin.ext (by dsimp only; omega)
    have e2 : fld l.val = l.val % 8 / 2 := by unfold fld; omega
    rw [e2]
    show BitVec.extractLsb' _ _ (codes (lows (a (ix2 q ⟨l.val / 8 + l.val % 2 * 64 + 16 * c.val + 64, _⟩)) (b (ix2 q ⟨l.val / 8 + l.val % 2 * 64 + 16 * c.val + 64, _⟩))) _) = _
    rw [e1]
    match h with
    | ⟨0, _⟩ => exact codes_lows_0 _ _ _ ht
    | ⟨1, _⟩ => exact codes_lows_1 _ _ _ ht
  · have hlt : ¬ l.val / 8 + l.val % 2 * 64 + 16 * c.val < 64 := by omega
    rw [dif_neg hlt]
    have e1 : (⟨l.val / 8 + l.val % 2 * 64 + 16 * c.val, by omega⟩ : Fin 128) = ⟨16 * (c.val + 4) + l.val / 8, by omega⟩ := Fin.ext (by dsimp only; omega)
    have e2 : fld l.val = l.val % 8 / 2 + 4 := by unfold fld; omega
    rw [e1, e2]
    match h with
    | ⟨0, _⟩ => exact codes_highs_0 _ _ _ ht
    | ⟨1, _⟩ => exact codes_highs_1 _ _ _ ht

/-- A dequantized block of 128 rows and 128 columns, as the kernel stores it: (codes − zero points) · scales. -/
def blk (c : BitVec 32) (src : IVec S64x128 32) (z : Vec Ideal S1x1x128 .i32) (s : Vec Ideal S1x1x128 .f32) : FVec Ideal S128x128 .bf16 :=
  k0_pay21 (F := Ideal) (codeW c src) (k0_pay19 (F := Ideal) z) (k0_pay20 (F := Ideal) s)

/-- A row of zero-point words broadcast over 64 rows. -/
theorem pay19_apply (z : Vec Ideal S1x1x128 .i32) (q : Fin 64) (l : Fin 128) :
    k0_pay19 (F := Ideal) z (ix2 q l) = z (ix3 0 0 l) := by
  unfold k0_pay19
  pointwise

/-- A row of scales broadcast over 128 rows. -/
theorem pay20_apply (s : Vec Ideal S1x1x128 .f32) (k : Fin 128) (l : Fin 128) :
    k0_pay20 (F := Ideal) s (ix2 k l) = s (ix3 0 0 l) := by
  unfold k0_pay20
  pointwise

/-- Words read as half words: row `k` is a half of the word in row `k / 2`. -/
theorem halves_apply (x : IVec S64x128 32) (k : Fin 128) (l : Fin 128) :
    bitcast S128x128 16 x bitcasts_S64x128_w32_S128x128_w16 (ix2 k l)
      = (x (ix2 ⟨k.val / 2, by omega⟩ l)).extractLsb' (16 * (k.val % 2)) 16 := by
  rw [bitcast_32_16]
  have e : S128x128.row (ix2 k l) = k.val := rfl
  have e2 : (bitcasts_S64x128_w32_S128x128_w16).srcIdx (ix2 k l) (S128x128.row (ix2 k l) / 2) (fun a ha => by
        have := (bitcasts_S64x128_w32_S128x128_w16).pos_lt (ix2 k l) 0 (by decide) a ha; omega) = ix2 ⟨k.val / 2, by omega⟩ l := by
    funext b
    match b with
    | ⟨0, _⟩ => apply Fin.ext; exact Shape.Bitcasts.srcIdx_row _ _ _ _ _ rfl
    | ⟨1, hb⟩ => apply Fin.ext; exact Shape.Bitcasts.srcIdx_other _ _ _ _ _ (by show ¬ 1 + 2 = 2; decide)
  rw [e2, e]

theorem blk_apply (c : BitVec 32) (src : IVec S64x128 32) (z : Vec Ideal S1x1x128 .i32) (s : Vec Ideal S1x1x128 .f32) (k l : Fin 128) :
    blk c src z s (ix2 k l)
      = (Ideal.ofBits .bf16 ((codeW c src (ix2 ⟨k.val / 2, by omega⟩ l)).extractLsb' (16 * (k.val % 2)) 16)
          - Ideal.ofBits .bf16 ((z (ix3 0 0 l)).extractLsb' (16 * (k.val % 2)) 16)) * s (ix3 0 0 l) := by
  unfold blk k0_pay21
  rw [shapeCast_id]
  show (Ideal.ofBits .bf16 (bitcast S128x128 16 (codeW c src) bitcasts_S64x128_w32_S128x128_w16 (ix2 k l))
    - Ideal.ofBits .bf16 (bitcast S128x128 16 (k0_pay19 (F := Ideal) z) bitcasts_S64x128_w32_S128x128_w16 (ix2 k l))) * k0_pay20 (F := Ideal) s (ix2 k l) = _
  rw [halves_apply, halves_apply, pay19_apply, pay20_apply]

end Cert.KernelIdeal.Val

end
-- ==== Proof.Zero.lean ====
module

public import proofs.«01_k».proof.Proof.Gen.KernelIdeal.Frame
public import proofs.«01_k».proof.Proof.Gen.KernelIdeal.Loops
public import proofs.«01_k».proof.Proof.Gen.KernelIdeal.Points
public import Idealize.ShloMosaic.Lib.Claim
public import Idealize.ShloMosaic.Lib.BitcastPair
public import Idealize.ShloMosaic.Lib.KernelVsHost
public import Idealize.ShloMosaic.Lib.Pointwise
public import proofs.«01_k».proof.Proof.Blocks

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Words

/-- The zero-point words of a block of 128 columns, as the kernel computes them: a lane gathered, shifted, masked, doubled. -/
def zeroW (c : BitVec 32) (src : IVec S48x128 32) : IVec S48x128 32 :=
  let n := andi (shrui (dynamicGather 1 src (shapeCast S48x128 (shapeCast S48x128x1
    (select (cmpi .slt (addi k0_pay35 (broadcast S48x128 c)) (broadcast S48x128 0#32))
      (addi (addi k0_pay35 (broadcast S48x128 c)) (broadcast S48x128 128#32)) (addi k0_pay35 (broadcast S48x128 c)))
    shapeCasts_S48x128_S48x128x1) shapeCasts_S48x128x1_S48x128)) k0_pay34) (broadcast S48x128 15#32)
  ori (ori n (shli n (broadcast S48x128 16#32))) (broadcast S48x128 1124090624#32)

theorem zeroW_apply (c : Fin 4) (src : IVec S48x128 32) (q : Fin 48) (l : Fin 128) :
    zeroW (BitVec.ofNat 32 (16 * c.val)) src (ix2 q l)
      = twice ((src (ix2 q ⟨l.val / 8 + l.val % 2 * 64 + 16 * c.val, by omega⟩) >>> (4 * (l.val % 8 / 2))) &&& 15#32) := by
  unfold zeroW
  rw [shapeCast_shapeCast]
  show twice (IntOp.andi (IntOp.shrui .vector (src _) (k0_pay34 (ix2 q l))) 15#32) = _
  rw [pay34_apply, shift_of]
  show twice (_ &&& _) = _
  congr 3
  congr 1
  funext b
  match b with
  | ⟨0, _⟩ => rfl
  | ⟨1, _⟩ =>
    apply Fin.ext
    have h := lane_of l c
    rw [← pay35_apply q l] at h
    exact h

theorem pay39_apply (a : Vec Ideal S48x128 .i32) (q : Fin 48) (j : Fin 128) :
    k0_pay39 (F := Ideal) a (ix2 q j)
      = if h : j.val < 64 then a (ix2 q j) &&& 65535#32
        else a (ix2 q ⟨j.val - 64, by omega⟩) >>> 16 := by
  show Scalar.select (IntOp.cmpi .slt (BitVec.ofNat 32 (0 * 128 + j.val)) 64#32) (a (ix2 q j) &&& 65535#32)
    (dynamicRotate 1 64#32 none (k0_pay37 (F := Ideal) a) rotates_S48x128_d1 (ix2 q j)) = _
  rw [slt64]
  by_cases h : j.val < 64
  · rw [if_pos h, dif_pos h]; rfl
  · rw [if_neg h, dif_neg h]
    show dynamicRotate 1 64#32 none (k0_pay37 (F := Ideal) a) rotates_S48x128_d1 (ix2 q j) = _
    rw [dynamicRotate_apply 1 64#32 (k0_pay37 (F := Ideal) a) rotates_S48x128_d1 (ix2 q j) (ix2 q ⟨j.val - 64, by omega⟩)
      (fun e => by
        match e with
        | ⟨0, _⟩ => rfl
        | ⟨1, _⟩ =>
          show j.val - 64 = (j.val + 128 - 64 % 128) % 128
          omega)]
    rfl

theorem pay40_apply (a : Vec Ideal S48x128 .i32) (q : Fin 48) (j : Fin 128) :
    k0_pay40 (F := Ideal) a (ix2 q j)
      = if h : j.val < 64 then a (ix2 q ⟨j.val + 64, by omega⟩) &&& 65535#32
        else a (ix2 q j) >>> 16 := by
  show Scalar.select (IntOp.cmpi .slt (BitVec.ofNat 32 (0 * 128 + j.val)) 64#32)
    (dynamicRotate 1 64#32 none (k0_pay36 (F := Ideal) a) rotates_S48x128_d1 (ix2 q j)) (a (ix2 q j) >>> 16) = _
  rw [slt64]
  by_cases h : j.val < 64
  · rw [if_pos h, dif_pos h]
    show dynamicRotate 1 64#32 none (k0_pay36 (F := Ideal) a) rotates_S48x128_d1 (ix2 q j) = _
    rw [dynamicRotate_apply 1 64#32 (k0_pay36 (F := Ideal) a) rotates_S48x128_d1 (ix2 q j) (ix2 q ⟨j.val + 64, by omega⟩)
      (fun e => by
        match e with
        | ⟨0, _⟩ => rfl
        | ⟨1, _⟩ =>
          show j.val + 64 = (j.val + 128 - 64 % 128) % 128
          omega)]
    rfl
  · rw [if_neg h, dif_neg h]; rfl

/-- A zero-point word, blocks of the low four: the lane's field of the packed zero points, doubled. -/
theorem zeroW_lo (c : Fin 4) (a : Vec Ideal S48x128 .i32) (q : Fin 48) (l : Fin 128) :
    zeroW (BitVec.ofNat 32 (16 * c.val)) (k0_pay39 (F := Ideal) a) (ix2 q l)
      = twice (nib (a (ix2 q ⟨16 * c.val + l.val / 8, by omega⟩)) (fld l.val)) := by
  rw [zeroW_apply, pay39_apply]
  have ht : l.val % 8 / 2 < 4 := by omega
  by_cases he : l.val % 2 = 0
  · have hlt : l.val / 8 + l.val % 2 * 64 + 16 * c.val < 64 := by omega
    rw [dif_pos hlt]
    have e1 : (⟨l.val / 8 + l.val % 2 * 64 + 16 * c.val, by omega⟩ : Fin 128) = ⟨16 * c.val + l.val / 8, by omega⟩ := Fin.ext (by dsimp only; omega)
    have e2 : fld l.val = l.val % 8 / 2 := by unfold fld; omega
    rw [e1, e2, nib_low _ _ ht]
  · have hlt : ¬ l.val / 8 + l.val % 2 * 64 + 16 * c.val < 64 := by omega
    rw [dif_neg hlt]
    have e1 : (⟨l.val / 8 + l.val % 2 * 64 + 16 * c.val - 64, by omega⟩ : Fin 128) = ⟨16 * c.val + l.val / 8, by omega⟩ := Fin.ext (by dsimp only; omega)
    have e2 : fld l.val = l.val % 8 / 2 + 4 := by unfold fld; omega
    rw [e2]
    show twice ((a (ix2 q ⟨l.val / 8 + l.val % 2 * 64 + 16 * c.val - 64, _⟩) >>> 16) >>> _ &&& _) = _
    rw [e1, nib_high _ _ ht]

/-- The same for the blocks of the high four. -/
theorem zeroW_hi (c : Fin 4) (a : Vec Ideal S48x128 .i32) (q : Fin 48) (l : Fin 128) :
    zeroW (BitVec.ofNat 32 (16 * c.val)) (k0_pay40 (F := Ideal) a) (ix2 q l)
      = twice (nib (a (ix2 q ⟨16 * (c.val + 4) + l.val / 8, by omega⟩)) (fld l.val)) := by
  rw [zeroW_apply, pay40_apply]
  have ht : l.val % 8 / 2 < 4 := by omega
  by_cases he : l.val % 2 = 0
  · have hlt : l.val / 8 + l.val % 2 * 64 + 16 * c.val < 64 := by omega
    rw [dif_pos hlt]
    have e1 : (⟨l.val / 8 + l.val % 2 * 64 + 16 * c.val + 64, by omega⟩ : Fin 128) = ⟨16 * (c.val + 4) + l.val / 8, by omega⟩ := Fin.ext (by dsimp only; omega)
    have e2 : fld l.val = l.val % 8 / 2 := by unfold fld; omega
    rw [e2]
    show twice ((a (ix2 q ⟨l.val / 8 + l.val % 2 * 64 + 16 * c.val + 64, _⟩) &&& 65535#32) >>> _ &&& _) = _
    rw [e1, nib_low _ _ ht]
  · have hlt : ¬ l.val / 8 + l.val % 2 * 64 + 16 * c.val < 64 := by omega
    rw [dif_neg hlt]
    have e1 : (⟨l.val / 8 + l.val % 2 * 64 + 16 * c.val, by omega⟩ : Fin 128) = ⟨16 * (c.val + 4) + l.val / 8, by omega⟩ := Fin.ext (by dsimp only; omega)
    have e2 : fld l.val = l.val % 8 / 2 + 4 := by unfold fld; omega
    rw [e1, e2, nib_high _ _ ht]

/-- A store's payload of zero-point words for one block. -/
def zst (c : BitVec 32) (src : IVec S48x128 32) : IVec S1x48x128 32 := k0_pay2 (zeroW c src)

theorem zst_apply (c : BitVec 32) (src : IVec S48x128 32) (q : Fin 48) (l : Fin 128) : zst c src (ix3 0 q l) = zeroW c src (ix2 q l) := by
  unfold zst k0_pay2
  pointwise

theorem sst_apply (s : Vec Ideal S48x128 .bf16) (q : Fin 48) (l : Fin 128) : k0_pay3 (F := Ideal) s (ix3 0 q l) = s (ix2 q l) := by
  unfold k0_pay3
  pointwise

theorem z0 (a : Vec Ideal S48x128 .i32) : k0_pay42 (k0_pay41 (F := Ideal) a) 1124090624#32 = zst 0#32 (k0_pay39 (F := Ideal) a) := rfl
theorem z1 (s : IVec S48x128 32) : k0_pay44 k0_pay34 k0_pay35 s = zst 16#32 s := rfl
theorem z2 (s : IVec S48x128 32) : k0_pay47 k0_pay34 k0_pay35 s = zst 32#32 s := rfl
theorem z3 (s : IVec S48x128 32) : k0_pay51 (k0_pay49 k0_pay34 k0_pay35 s) k0_pay50 = zst 48#32 s := rfl
theorem z4 (s : IVec S48x128 32) : k0_pay53 k0_pay34 k0_pay35 s = zst 0#32 s := rfl
theorem z5 (s : IVec S48x128 32) : k0_pay55 k0_pay34 k0_pay35 s = zst 16#32 s := rfl
theorem z6 (s : IVec S48x128 32) : k0_pay58 k0_pay34 s (k0_pay57 k0_pay35) = zst 32#32 s := rfl
theorem z7 (s : IVec S48x128 32) : k0_pay2 (k0_pay60 k0_pay34 k0_pay35 s) = zst 48#32 s := rfl

theorem b0 (s : IVec S64x128 32) (z : Vec Ideal S1x1x128 .i32) (r : Vec Ideal S1x1x128 .f32) :
    k0_pay15 (F := Ideal) k0_pay8 s (k0_pay13) (k0_pay14) z r = blk 0#32 s z r := rfl
theorem b3 (s : IVec S64x128 32) (z : Vec Ideal S1x1x128 .i32) (r : Vec Ideal S1x1x128 .f32) :
    k0_pay22 (F := Ideal) k0_pay8 k0_pay9 s z r = blk 48#32 s z r := rfl

end Cert.KernelIdeal.Val

end
-- ==== Proof.Tile.lean ====
module

public import proofs.«01_k».proof.Proof.Gen.KernelIdeal.Frame
public import proofs.«01_k».proof.Proof.Gen.KernelIdeal.Loops
public import proofs.«01_k».proof.Proof.Gen.KernelIdeal.Points
public import Idealize.ShloMosaic.Lib.Claim
public import Idealize.ShloMosaic.Lib.BitcastPair
public import Idealize.ShloMosaic.Lib.KernelVsHost
public import Idealize.ShloMosaic.Lib.Pointwise
public import proofs.«01_k».proof.Proof.Zero

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Words

/-- The weight tile a tile of the packed words, scales and zero points stands for: column `n` of row `k` is
    (code − zero point) · scale, the code field `n % 8` of word `n / 8`, the group `k / 128`. -/
def WD (x3 : S6144x128.Idx → BitVec 32) (x4 : S48x1024.Idx → EReal) (x5 : S48x128.Idx → BitVec 32) (j : S6144x1024.Idx) : EReal :=
  ((((nib (x3 (ix2 (j 0) ⟨(j 1).val / 8, by have : (j 1).val < 1024 := (j 1).isLt; omega⟩)) (fld (j 1).val)).toInt : ℝ) : EReal)
    - (((nib (x5 (ix2 ⟨(j 0).val / 128, by have : (j 0).val < 6144 := (j 0).isLt; omega⟩
        ⟨(j 1).val / 8, by have : (j 1).val < 1024 := (j 1).isLt; omega⟩)) (fld (j 1).val)).toInt : ℝ) : EReal))
    * x4 (ix2 ⟨(j 0).val / 128, by have : (j 0).val < 6144 := (j 0).isLt; omega⟩ (j 1))

/-- The zero-point scratch's contents for a tile of packed zero points. -/
def ZP (x5 : S48x128.Idx → BitVec 32) (j : S8x48x128.Idx) : BitVec 32 :=
  twice (nib (x5 (ix2 (j 1) ⟨16 * (j 0).val + (j 2).val / 8, by have : (j 0).val < 8 := (j 0).isLt; have : (j 2).val < 128 := (j 2).isLt; omega⟩)) (fld (j 2).val))

/-- The scale scratch's contents for a tile of scales. -/
def SP (x4 : S48x1024.Idx → EReal) (j : S8x48x128.Idx) : EReal :=
  x4 (ix2 (j 1) ⟨128 * (j 0).val + (j 2).val, by have : (j 0).val < 8 := (j 0).isLt; have : (j 2).val < 128 := (j 2).isLt; omega⟩)

/-- A block's element from its code pattern, zero-point word and scale is the tile's. -/
theorem blk_tile (o : Fin 8) (g : Fin 48) (c : BitVec 32) (src : IVec S64x128 32) (z : Vec Ideal S1x1x128 .i32) (s : Vec Ideal S1x1x128 .f32)
    (x3 : S6144x128.Idx → BitVec 32) (x4 : S48x1024.Idx → EReal) (x5 : S48x128.Idx → BitVec 32)
    (k l : Fin 128)
    (hsrc : (codeW c src (ix2 ⟨k.val / 2, by omega⟩ l)).extractLsb' (16 * (k.val % 2)) 16
      = pat (nib (x3 (ix2 ⟨128 * g.val + k.val, by omega⟩ ⟨16 * o.val + l.val / 8, by omega⟩)) (fld l.val)))
    (hz : z (ix3 0 0 l) = ZP x5 (ix3 o g l)) (hs : s (ix3 0 0 l) = SP x4 (ix3 o g l)) :
    blk c src z s (ix2 k l) = WD x3 x4 x5 (ix2 ⟨128 * g.val + k.val, by omega⟩ ⟨128 * o.val + l.val, by omega⟩) := by
  rw [blk_apply, hsrc, hz, hs]
  unfold ZP SP WD
  have e1 : (⟨(128 * o.val + l.val) / 8, by omega⟩ : Fin 128) = ⟨16 * o.val + l.val / 8, by omega⟩ := Fin.ext (by dsimp only; omega)
  have e2 : (⟨(128 * g.val + k.val) / 128, by omega⟩ : Fin 48) = g := Fin.ext (by dsimp only; omega)
  have e3 : fld (128 * o.val + l.val) = fld l.val := by unfold fld; omega
  show (_ - Ideal.ofBits .bf16 ((twice (nib (x5 (ix2 g ⟨16 * o.val + l.val / 8, _⟩)) (fld l.val))).extractLsb' (16 * (k.val % 2)) 16)) * x4 (ix2 g ⟨128 * o.val + l.val, _⟩)
    = ((((nib (x3 (ix2 ⟨128 * g.val + k.val, _⟩ ⟨(128 * o.val + l.val) / 8, _⟩)) (fld (128 * o.val + l.val))).toInt : ℝ) : EReal)
      - (((nib (x5 (ix2 ⟨(128 * g.val + k.val) / 128, _⟩ ⟨(128 * o.val + l.val) / 8, _⟩)) (fld (128 * o.val + l.val))).toInt : ℝ) : EReal))
      * x4 (ix2 ⟨(128 * g.val + k.val) / 128, _⟩ ⟨128 * o.val + l.val, _⟩)
  rw [e1, e2, e3, twice_half _ _ _ (by omega), pat_sub]

/-- Either word of a pair of rows, by the row's parity. -/
theorem pair_row (g : Fin 48) (x3 : S6144x128.Idx → BitVec 32) (a b : Vec Ideal S64x128 .i32)
    (ha : ∀ (q : Fin 64) (j : Fin 128), a (ix2 q j) = x3 (ix2 ⟨128 * g.val + 2 * q.val, by omega⟩ j))
    (hb : ∀ (q : Fin 64) (j : Fin 128), b (ix2 q j) = x3 (ix2 ⟨128 * g.val + 1 + 2 * q.val, by omega⟩ j)) (k j : Fin 128) :
    (if k.val % 2 = 0 then a else b) (ix2 ⟨k.val / 2, by omega⟩ j) = x3 (ix2 ⟨128 * g.val + k.val, by omega⟩ j) := by
  by_cases h : k.val % 2 = 0
  · rw [if_pos h, ha]
    have e : (⟨128 * g.val + 2 * (k.val / 2), by omega⟩ : Fin 6144) = ⟨128 * g.val + k.val, by omega⟩ := Fin.ext (by dsimp only; omega)
    exact congrArg (fun r => x3 (ix2 r j)) e
  · rw [if_neg h, hb]
    have e : (⟨128 * g.val + 1 + 2 * (k.val / 2), by omega⟩ : Fin 6144) = ⟨128 * g.val + k.val, by omega⟩ := Fin.ext (by dsimp only; omega)
    exact congrArg (fun r => x3 (ix2 r j)) e

theorem src_lo (c : Fin 4) (g : Fin 48) (x3 : S6144x128.Idx → BitVec 32) (a b : Vec Ideal S64x128 .i32)
    (ha : ∀ (q : Fin 64) (j : Fin 128), a (ix2 q j) = x3 (ix2 ⟨128 * g.val + 2 * q.val, by omega⟩ j))
    (hb : ∀ (q : Fin 64) (j : Fin 128), b (ix2 q j) = x3 (ix2 ⟨128 * g.val + 1 + 2 * q.val, by omega⟩ j)) (k l : Fin 128) :
    (codeW (BitVec.ofNat 32 (16 * c.val)) (k0_pay11 (F := Ideal) a b) (ix2 ⟨k.val / 2, by omega⟩ l)).extractLsb' (16 * (k.val % 2)) 16
      = pat (nib (x3 (ix2 ⟨128 * g.val + k.val, by omega⟩ ⟨16 * c.val + l.val / 8, by omega⟩)) (fld l.val)) := by
  rw [← pair_row g x3 a b ha hb]
  exact codeW_lo c a b ⟨k.val / 2, by omega⟩ l ⟨k.val % 2, by omega⟩

theorem src_hi (c : Fin 4) (g : Fin 48) (x3 : S6144x128.Idx → BitVec 32) (a b : Vec Ideal S64x128 .i32)
    (ha : ∀ (q : Fin 64) (j : Fin 128), a (ix2 q j) = x3 (ix2 ⟨128 * g.val + 2 * q.val, by omega⟩ j))
    (hb : ∀ (q : Fin 64) (j : Fin 128), b (ix2 q j) = x3 (ix2 ⟨128 * g.val + 1 + 2 * q.val, by omega⟩ j)) (k l : Fin 128) :
    (codeW (BitVec.ofNat 32 (16 * c.val)) (k0_pay12 (F := Ideal) a b) (ix2 ⟨k.val / 2, by omega⟩ l)).extractLsb' (16 * (k.val % 2)) 16
      = pat (nib (x3 (ix2 ⟨128 * g.val + k.val, by omega⟩ ⟨16 * (c.val + 4) + l.val / 8, by omega⟩)) (fld l.val)) := by
  rw [← pair_row g x3 a b ha hb]
  exact codeW_hi c a b ⟨k.val / 2, by omega⟩ l ⟨k.val % 2, by omega⟩

theorem trips2_le (k : Fin k0_t2_loop.trips) : k.val < 48 := Nat.lt_of_lt_of_le k.isLt k0_t2_abs.2.1

/-- The blocks' sources at a trip: the low four from the even arrangement, the high four from the other. -/
def srcOf (o : Fin 8) (a b : Vec Ideal S64x128 .i32) : IVec S64x128 32 :=
  if o.val < 4 then k0_pay11 (F := Ideal) a b else k0_pay12 (F := Ideal) a b

theorem src_tile (o : Fin 8) (g : Fin 48) (x3 : S6144x128.Idx → BitVec 32) (a b : Vec Ideal S64x128 .i32)
    (ha : ∀ (q : Fin 64) (j : Fin 128), a (ix2 q j) = x3 (ix2 ⟨128 * g.val + 2 * q.val, by omega⟩ j))
    (hb : ∀ (q : Fin 64) (j : Fin 128), b (ix2 q j) = x3 (ix2 ⟨128 * g.val + 1 + 2 * q.val, by omega⟩ j)) (k l : Fin 128) :
    (codeW (BitVec.ofNat 32 (16 * (o.val % 4))) (srcOf o a b) (ix2 ⟨k.val / 2, by omega⟩ l)).extractLsb' (16 * (k.val % 2)) 16
      = pat (nib (x3 (ix2 ⟨128 * g.val + k.val, by omega⟩ ⟨16 * o.val + l.val / 8, by omega⟩)) (fld l.val)) := by
  unfold srcOf
  by_cases h : o.val < 4
  · rw [if_pos h]
    have e := src_lo ⟨o.val % 4, by omega⟩ g x3 a b ha hb k l
    rw [e]
    have e1 : (⟨16 * (o.val % 4) + l.val / 8, by omega⟩ : Fin 128) = ⟨16 * o.val + l.val / 8, by omega⟩ := Fin.ext (by dsimp only; omega)
    exact congrArg (fun r => pat (nib (x3 (ix2 _ r)) _)) e1
  · rw [if_neg h]
    have e := src_hi ⟨o.val % 4, by omega⟩ g x3 a b ha hb k l
    rw [e]
    have e1 : (⟨16 * (o.val % 4 + 4) + l.val / 8, by omega⟩ : Fin 128) = ⟨16 * o.val + l.val / 8, by omega⟩ := Fin.ext (by dsimp only; omega)
    exact congrArg (fun r => pat (nib (x3 (ix2 _ r)) _)) e1

/-- One store of a trip of the dequantizing loop: the tile's values at the block's own place. -/
theorem piece2 (o : Fin 8) (arg5 : Memref sig .tc .vmem S6144x128 .i32) (arg11 : Memref sig .tc .vmem S8x48x128 .i32) (arg12 : Memref sig .tc .vmem S8x48x128 .f32)
    (x3 : S6144x128.Idx → BitVec 32) (x4 : S48x1024.Idx → EReal) (x5 : S48x128.Idx → BitVec 32)
    (X5 : BufTy.Contents (Elt Ideal) arg5.view.ty) (X11 : BufTy.Contents (Elt Ideal) arg11.view.ty) (X12 : BufTy.Contents (Elt Ideal) arg12.view.ty)
    (h5 : arg5.view.read (Elt Ideal) X5 = x3) (h11 : arg11.view.read (Elt Ideal) X11 = ZP x5) (h12 : arg12.view.read (Elt Ideal) X12 = SP x4)
    (k : Fin k0_t2_loop.trips) (i3 : ∀ a, S64x128.size a = 0 ∨ (k0_off3 k) a + (![2, 1] : Fin 2 → Nat) a * (S64x128.size a - 1) < S6144x128.size a)
    (i4 : ∀ a, S64x128.size a = 0 ∨ (k0_off4 k) a + (![2, 1] : Fin 2 → Nat) a * (S64x128.size a - 1) < S6144x128.size a)
    (offz : Fin 3 → ℕ) (hz : offz = ![o.val, k.val, 0]) (iz : ∀ a, offz a + S1x1x128.size a ≤ S8x48x128.size a)
    (off : Fin 2 → ℕ) (ho : off = ![128 * k.val, 128 * o.val]) (io : ∀ a, off a + S128x128.size a ≤ S6144x1024.size a)
    (x : S128x128.Idx) :
    blk (BitVec.ofNat 32 (16 * (o.val % 4)))
        (srcOf o (View.readAt (Elt Ideal) arg5.view (⟨k0_off3 k, S64x128.size, ![2, 1], i3⟩ : LoadRect S6144x128) X5)
          (View.readAt (Elt Ideal) arg5.view (⟨k0_off4 k, S64x128.size, ![2, 1], i4⟩ : LoadRect S6144x128) X5))
        (View.readAt (Elt Ideal) arg11.view (Rect.unit (s := S8x48x128) offz S1x1x128.size iz).toLoadRect X11)
        (View.readAt (Elt Ideal) arg12.view (Rect.unit (s := S8x48x128) offz S1x1x128.size iz).toLoadRect X12) x
      = WD x3 x4 x5 ((Rect.unit (s := S6144x1024) off S128x128.size io).emb x) := by
  subst hz ho h5
  rw [eq_ix2 x]
  have hk := trips2_le k
  refine (blk_tile o ⟨k.val, hk⟩ _ _ _ _ (arg5.view.read (Elt Ideal) X5) x4 x5 (x 0) (x 1) (src_tile o ⟨k.val, hk⟩ (arg5.view.read (Elt Ideal) X5) _ _ ?_ ?_ (x 0) (x 1)) ?_ ?_).trans ?_
  · intro q j
    rw [View.readAt_apply]
    congr 1
    funext b
    match b with
    | ⟨0, _⟩ => apply Fin.ext; show k0_off3 k 0 + 2 * q.val = 128 * k.val + 2 * q.val; rw [k0_off3_eq]; rfl
    | ⟨1, _⟩ => apply Fin.ext; show k0_off3 k 1 + 1 * j.val = j.val; rw [k0_off3_eq]; show 0 + 1 * j.val = j.val; omega
  · intro q j
    rw [View.readAt_apply]
    congr 1
    funext b
    match b with
    | ⟨0, _⟩ => apply Fin.ext; show k0_off4 k 0 + 2 * q.val = 128 * k.val + 1 + 2 * q.val; rw [k0_off4_eq]; rfl
    | ⟨1, _⟩ => apply Fin.ext; show k0_off4 k 1 + 1 * j.val = j.val; rw [k0_off4_eq]; show 0 + 1 * j.val = j.val; omega
  · rw [View.readAt_apply, h11]
    congr 1
    funext b
    match b with
    | ⟨0, _⟩ => apply Fin.ext; show o.val + 1 * 0 = o.val; omega
    | ⟨1, _⟩ => apply Fin.ext; show k.val + 1 * 0 = k.val; omega
    | ⟨2, _⟩ => apply Fin.ext; show 0 + 1 * (x 1).val = (x 1).val; omega
  · rw [View.readAt_apply, h12]
    congr 1
    funext b
    match b with
    | ⟨0, _⟩ => apply Fin.ext; show o.val + 1 * 0 = o.val; omega
    | ⟨1, _⟩ => apply Fin.ext; show k.val + 1 * 0 = k.val; omega
    | ⟨2, _⟩ => apply Fin.ext; show 0 + 1 * (x 1).val = (x 1).val; omega
  · congr 1
    funext b
    match b with
    | ⟨0, _⟩ => apply Fin.ext; show 128 * k.val + (x 0).val = 128 * k.val + 1 * (x 0).val; omega
    | ⟨1, _⟩ => apply Fin.ext; show 128 * o.val + (x 1).val = 128 * o.val + 1 * (x 1).val; omega

end Cert.KernelIdeal.Val

end
-- ==== Proof.Trips.lean ====
module

public import proofs.«01_k».proof.Proof.Gen.KernelIdeal.Frame
public import proofs.«01_k».proof.Proof.Gen.KernelIdeal.Loops
public import proofs.«01_k».proof.Proof.Gen.KernelIdeal.Points
public import Idealize.ShloMosaic.Lib.Claim
public import Idealize.ShloMosaic.Lib.BitcastPair
public import Idealize.ShloMosaic.Lib.KernelVsHost
public import Idealize.ShloMosaic.Lib.Pointwise
public import proofs.«01_k».proof.Proof.Tile

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Words

/-- One normalized element: the row's element over the row's root mean square, times the gain. -/
def normAt (row : Fin 6144 → EReal) (g : EReal) (k : Fin 6144) : EReal :=
  row k * Ideal.rsqrt (Ideal.div (∑ j, row j * row j) (Ideal.ofBits FTy.f32 1170210816#32) + Ideal.ofBits FTy.f32 897988541#32) * g

theorem pay1_apply (x : Vec Ideal S16x6144 .bf16) (g : Vec Ideal S1x6144 .f32) (r : Fin 16) (k : Fin 6144) :
    k0_pay1 (F := Ideal) x g (ix2 r k) = normAt (fun j => x (ix2 r j)) (g (ix2 0 k)) k := by
  unfold k0_pay1
  pointwise
  rfl

theorem pay4_apply (x : Vec Ideal S512x6144 .bf16) (w : Vec Ideal S6144x1024 .bf16) (b : Vec Ideal S1x1024 .f32) (r : Fin 512) (n : Fin 1024) :
    k0_pay4 (F := Ideal) x w b (ix2 r n) = ∑ k : Fin 6144, x (ix2 r k) * w (ix2 k n) + b (ix2 0 n) := by
  unfold k0_pay4
  pointwise

theorem trips1_le (k : Fin k0_t1_loop.trips) : k.val < 32 := Nat.lt_of_lt_of_le k.isLt k0_t1_abs.2.1

/-- The normalized rows of a chunk of 512 rows, over the whole scratch's index. -/
def NT (x0 : S512x6144.Idx → EReal) (x1 : S1x6144.Idx → EReal) (m : ℕ) (y : S1536x6144.Idx) : EReal :=
  normAt (fun j => x0 (ix2 ⟨((y 0).val - 512 * m) % 512, by omega⟩ j)) (x1 (ix2 0 (y 1))) (y 1)

/-- A trip's store of the normalizing loop: sixteen normalized rows at their own place. -/
theorem piece1 (arg2 : Memref sig .tc .vmem S512x6144 .bf16) (arg3 : Memref sig .tc .vmem S1x6144 .f32)
    (x0 : S512x6144.Idx → EReal) (x1 : S1x6144.Idx → EReal)
    (X2 : BufTy.Contents (Elt Ideal) arg2.view.ty) (X3 : BufTy.Contents (Elt Ideal) arg3.view.ty)
    (h2 : arg2.view.read (Elt Ideal) X2 = x0) (h3 : arg3.view.read (Elt Ideal) X3 = x1) (i : grid0.Coords)
    (k : Fin k0_t1_loop.trips) (i1 : ∀ a, k0_off1 k a + S16x6144.size a ≤ S512x6144.size a)
    (i0 : ∀ a, (![0, 0] : Fin 2 → ℕ) a + S1x6144.size a ≤ S1x6144.size a)
    (io : ∀ a, k0_off2 i k a + S16x6144.size a ≤ S1536x6144.size a) (x : S16x6144.Idx) :
    k0_pay1 (F := Ideal) (View.readAt (Elt Ideal) arg2.view (Rect.unit (s := S512x6144) (k0_off1 k) S16x6144.size i1).toLoadRect X2)
        (View.readAt (Elt Ideal) arg3.view (Rect.unit (s := S1x6144) ![0, 0] S1x6144.size i0).toLoadRect X3) x
      = NT x0 x1 (i 1).val ((Rect.unit (s := S1536x6144) (k0_off2 i k) S16x6144.size io).emb x) := by
  subst h2 h3
  have hk := trips1_le k
  have hx : (x 0).val < 16 := (x 0).isLt
  have hc : (Rect.unit (s := S1536x6144) (k0_off2 i k) S16x6144.size io).emb x 1 = x 1 := by
    apply Fin.ext
    show k0_off2 i k 1 + 1 * (x 1).val = (x 1).val
    rw [k0_off2_eq]
    show 0 + 1 * (x 1).val = (x 1).val
    omega
  have hr : ((Rect.unit (s := S1536x6144) (k0_off2 i k) S16x6144.size io).emb x 0).val = 512 * (i 1).val + 16 * k.val + (x 0).val := by
    show k0_off2 i k 0 + 1 * (x 0).val = _
    rw [k0_off2_eq]
    show 512 * (i 1).val + 16 * k.val + 1 * (x 0).val = _
    omega
  refine ((congrArg _ (eq_ix2 x)).trans (pay1_apply _ _ (x 0) (x 1))).trans ?_
  unfold NT
  rw [hc]
  congr 1
  · funext j
    rw [View.readAt_apply]
    congr 1
    funext b
    match b with
    | ⟨0, _⟩ =>
      apply Fin.ext
      show k0_off1 k 0 + 1 * (x 0).val = (((Rect.unit (s := S1536x6144) (k0_off2 i k) S16x6144.size io).emb x 0).val - 512 * (i 1).val) % 512
      rw [hr, k0_off1_eq]
      show 16 * k.val + 1 * (x 0).val = _
      omega
    | ⟨1, _⟩ =>
      apply Fin.ext
      show k0_off1 k 1 + 1 * j.val = j.val
      rw [k0_off1_eq]
      show 0 + 1 * j.val = j.val
      omega
  · rw [View.readAt_apply]
    congr 1
    funext b
    match b with
    | ⟨0, _⟩ => rfl
    | ⟨1, _⟩ => apply Fin.ext; show 0 + 1 * (x 1).val = (x 1).val; omega

section Loops

variable (𝒱 : Variants) (c : Dev nD) (bd : Option 𝒱.V) (i : grid0.Coords) (arg2 : Memref sig .tc .vmem S512x6144 .bf16) (harg2 : arg2.IsWhole) (arg3 : Memref sig .tc .vmem S1x6144 .f32) (harg3 : arg3.IsWhole) (arg4 : Memref sig .tc .vmem S1x1024 .f32) (harg4 : arg4.IsWhole) (arg5 : Memref sig .tc .vmem S6144x128 .i32) (harg5 : arg5.IsWhole) (arg6 : Memref sig .tc .vmem S48x1024 .bf16) (harg6 : arg6.IsWhole) (arg7 : Memref sig .tc .vmem S48x128 .i32) (harg7 : arg7.IsWhole) (arg8 : Memref sig .tc .vmem S512x1024 .bf16) (harg8 : arg8.IsWhole) (arg9 : Memref sig .tc .vmem S1536x6144 .bf16) (harg9 : arg9.IsWhole) (arg10 : Memref sig .tc .vmem S6144x1024 .bf16) (harg10 : arg10.IsWhole) (arg11 : Memref sig .tc .vmem S8x48x128 .i32) (harg11 : arg11.IsWhole) (arg12 : Memref sig .tc .vmem S8x48x128 .f32) (harg12 : arg12.IsWhole)

theorem mem_pb1 (hc : k0_cond1 i = 1#1) (X2 : BufTy.Contents (Elt Ideal) arg2.view.ty) (X3 : BufTy.Contents (Elt Ideal) arg3.view.ty)
    (p : View.Piece (Elt Ideal) S1536x6144 .bf16) (n : ℕ) (hn : n ≤ k0_t1_loop.trips) :
    p ∈ pb_k0_t1 (F := Ideal) 𝒱 c bd i arg2 harg2 arg3 harg3 arg4 harg4 arg5 harg5 arg6 harg6 arg7 harg7 arg8 harg8 arg9 harg9 arg10 harg10 arg11 harg11 arg12 harg12 hc X2 X3 n
      ↔ ∃ k : Fin k0_t1_loop.trips, k.val < n ∧ p ∈ tripL_k0_t1 (F := Ideal) 𝒱 c bd i arg2 harg2 arg3 harg3 arg4 harg4 arg5 harg5 arg6 harg6 arg7 harg7 arg8 harg8 arg9 harg9 arg10 harg10 arg11 harg11 arg12 harg12 hc X2 X3 k := by
  induction n with
  | zero => exact ⟨fun h => absurd h (by rw [pb_k0_t1.eq_1]; exact List.not_mem_nil), fun ⟨k, h, _⟩ => absurd h (by omega)⟩
  | succ n ih =>
    have e := pb_k0_t1_succ (F := Ideal) 𝒱 c bd i arg2 harg2 arg3 harg3 arg4 harg4 arg5 harg5 arg6 harg6 arg7 harg7 arg8 harg8 arg9 harg9 arg10 harg10 arg11 harg11 arg12 harg12 hc X2 X3 ⟨n, hn⟩
    rw [show n + 1 = (⟨n, hn⟩ : Fin k0_t1_loop.trips).val + 1 from rfl, e, List.mem_append, ih (by omega)]
    constructor
    · rintro (h | ⟨k, hk, h⟩)
      · exact ⟨⟨n, hn⟩, Nat.lt_succ_self n, h⟩
      · exact ⟨k, Nat.lt_succ_of_lt hk, h⟩
    · rintro ⟨k, hk, h⟩
      rcases Nat.lt_succ_iff_lt_or_eq.mp hk with hk | hk
      · exact .inr ⟨k, hk, h⟩
      · refine .inl ?_
        have : k = ⟨n, hn⟩ := Fin.ext hk
        rwa [← this]

theorem mem_pb2 (hc : k0_cond2 i = 1#1) (X5 : BufTy.Contents (Elt Ideal) arg5.view.ty) (X11 : BufTy.Contents (Elt Ideal) arg11.view.ty)
    (X12 : BufTy.Contents (Elt Ideal) arg12.view.ty)
    (p : View.Piece (Elt Ideal) S6144x1024 .bf16) (n : ℕ) (hn : n ≤ k0_t2_loop.trips) :
    p ∈ pb_k0_t2 (F := Ideal) 𝒱 c bd i arg2 harg2 arg3 harg3 arg4 harg4 arg5 harg5 arg6 harg6 arg7 harg7 arg8 harg8 arg9 harg9 arg10 harg10 arg11 harg11 arg12 harg12 hc X5 X11 X12 n
      ↔ ∃ k : Fin k0_t2_loop.trips, k.val < n ∧ p ∈ tripL_k0_t2 (F := Ideal) 𝒱 c bd i arg2 harg2 arg3 harg3 arg4 harg4 arg5 harg5 arg6 harg6 arg7 harg7 arg8 harg8 arg9 harg9 arg10 harg10 arg11 harg11 arg12 harg12 hc X5 X11 X12 k := by
  induction n with
  | zero => exact ⟨fun h => absurd h (by rw [pb_k0_t2.eq_1]; exact List.not_mem_nil), fun ⟨k, h, _⟩ => absurd h (by omega)⟩
  | succ n ih =>
    have e := pb_k0_t2_succ (F := Ideal) 𝒱 c bd i arg2 harg2 arg3 harg3 arg4 harg4 arg5 harg5 arg6 harg6 arg7 harg7 arg8 harg8 arg9 harg9 arg10 harg10 arg11 harg11 arg12 harg12 hc X5 X11 X12 ⟨n, hn⟩
    rw [show n + 1 = (⟨n, hn⟩ : Fin k0_t2_loop.trips).val + 1 from rfl, e, List.mem_append, ih (by omega)]
    constructor
    · rintro (h | ⟨k, hk, h⟩)
      · exact ⟨⟨n, hn⟩, Nat.lt_succ_self n, h⟩
      · exact ⟨k, Nat.lt_succ_of_lt hk, h⟩
    · rintro ⟨k, hk, h⟩
      rcases Nat.lt_succ_iff_lt_or_eq.mp hk with hk | hk
      · exact .inr ⟨k, hk, h⟩
      · refine .inl ?_
        have : k = ⟨n, hn⟩ := Fin.ext hk
        rwa [← this]

theorem trips1 : k0_t1_loop.trips = 32 := by decide
theorem trips2 : k0_t2_loop.trips = 48 := by decide

/-- After the normalizing loop, a row of the chunk reads its normalized row. -/
theorem norm_in (hc : k0_cond1 i = 1#1) (X2 : BufTy.Contents (Elt Ideal) arg2.view.ty) (X3 : BufTy.Contents (Elt Ideal) arg3.view.ty)
    (G : BufTy.Contents (Elt Ideal) arg9.view.ty) (y : S1536x6144.Idx)
    (h0 : 512 * (i 1).val ≤ (y 0).val) (h1 : (y 0).val < 512 * (i 1).val + 512) :
    arg9.view.read (Elt Ideal) (arg9.view.writes (Elt Ideal) G (pb_k0_t1 (F := Ideal) 𝒱 c bd i arg2 harg2 arg3 harg3 arg4 harg4 arg5 harg5 arg6 harg6 arg7 harg7 arg8 harg8 arg9 harg9 arg10 harg10 arg11 harg11 arg12 harg12 hc X2 X3 k0_t1_loop.trips)) y
      = NT (arg2.view.read (Elt Ideal) X2) (arg3.view.read (Elt Ideal) X3) (i 1).val y := by
  refine View.read_writes_apply_of_pieces (Val := Elt Ideal) (e := .bf16) _ _ (NT (arg2.view.read (Elt Ideal) X2) (arg3.view.read (Elt Ideal) X3) (i 1).val) _ ?_ y ?_
  · intro p hp
    rw [mem_pb1 (hn := le_refl _)] at hp
    obtain ⟨k, -, hp⟩ := hp
    unfold tripL_k0_t1 trip_k0_t1 at hp
    obtain rfl := List.mem_singleton.mp hp
    exact fun x => piece1 arg2 arg3 _ _ X2 X3 rfl rfl i k (k0_off1_inb i k hc) _ (k0_off2_inb i k hc) x
  · have hk : ((y 0).val - 512 * (i 1).val) / 16 < k0_t1_loop.trips := by rw [trips1]; omega
    refine ⟨_, (mem_pb1 (hn := le_refl _) ..).mpr ⟨⟨((y 0).val - 512 * (i 1).val) / 16, hk⟩, hk, by unfold tripL_k0_t1 trip_k0_t1; exact List.mem_singleton.mpr rfl⟩, ?_⟩
    rw [Rect.mem_set_unit]
    intro a
    rw [k0_off2_eq]
    match a with
    | ⟨0, _⟩ =>
      show 512 * (i 1).val + 16 * (((y 0).val - 512 * (i 1).val) / 16) ≤ (y 0).val ∧ (y 0).val < 512 * (i 1).val + 16 * (((y 0).val - 512 * (i 1).val) / 16) + 16
      omega
    | ⟨1, _⟩ =>
      have := (y 1).isLt
      exact ⟨Nat.zero_le _, by show (y 1).val < 0 + 6144; have : (y 1).val < 6144 := (y 1).isLt; omega⟩

/-- … and a row of another chunk is untouched. -/
theorem norm_out (hc : k0_cond1 i = 1#1) (X2 : BufTy.Contents (Elt Ideal) arg2.view.ty) (X3 : BufTy.Contents (Elt Ideal) arg3.view.ty)
    (G : BufTy.Contents (Elt Ideal) arg9.view.ty) (y : S1536x6144.Idx)
    (h : (y 0).val < 512 * (i 1).val ∨ 512 * (i 1).val + 512 ≤ (y 0).val) :
    arg9.view.read (Elt Ideal) (arg9.view.writes (Elt Ideal) G (pb_k0_t1 (F := Ideal) 𝒱 c bd i arg2 harg2 arg3 harg3 arg4 harg4 arg5 harg5 arg6 harg6 arg7 harg7 arg8 harg8 arg9 harg9 arg10 harg10 arg11 harg11 arg12 harg12 hc X2 X3 k0_t1_loop.trips)) y
      = arg9.view.read (Elt Ideal) G y := by
  refine View.read_writes_apply_of_forall_not_mem _ _ _ _ ?_
  intro p hp
  rw [mem_pb1 (hn := le_refl _)] at hp
  obtain ⟨k, -, hp⟩ := hp
  have hk := trips1_le k
  unfold tripL_k0_t1 trip_k0_t1 at hp
  obtain rfl := List.mem_singleton.mp hp
  rw [Rect.mem_set_unit]
  intro hm
  have h0 := hm 0
  rw [k0_off2_eq] at h0
  have h1 : 512 * (i 1).val + 16 * k.val ≤ (y 0).val ∧ (y 0).val < 512 * (i 1).val + 16 * k.val + 16 := h0
  omega

/-- After the dequantizing loop the weight scratch reads the tile. -/
theorem deq (hc : k0_cond2 i = 1#1) (X5 : BufTy.Contents (Elt Ideal) arg5.view.ty) (X11 : BufTy.Contents (Elt Ideal) arg11.view.ty)
    (X12 : BufTy.Contents (Elt Ideal) arg12.view.ty) (G : BufTy.Contents (Elt Ideal) arg10.view.ty)
    (x4 : S48x1024.Idx → EReal) (x5 : S48x128.Idx → BitVec 32)
    (h11 : arg11.view.read (Elt Ideal) X11 = ZP x5) (h12 : arg12.view.read (Elt Ideal) X12 = SP x4) :
    arg10.view.read (Elt Ideal) (arg10.view.writes (Elt Ideal) G (pb_k0_t2 (F := Ideal) 𝒱 c bd i arg2 harg2 arg3 harg3 arg4 harg4 arg5 harg5 arg6 harg6 arg7 harg7 arg8 harg8 arg9 harg9 arg10 harg10 arg11 harg11 arg12 harg12 hc X5 X11 X12 k0_t2_loop.trips))
      = WD (arg5.view.read (Elt Ideal) X5) x4 x5 := by
  funext y
  refine View.read_writes_apply_of_pieces (Val := Elt Ideal) (e := .bf16) _ _ (WD (arg5.view.read (Elt Ideal) X5) x4 x5) _ ?_ y ?_
  · intro p hp
    rw [mem_pb2 (hn := le_refl _)] at hp
    obtain ⟨k, -, hp⟩ := hp
    unfold tripL_k0_t2 trip_k0_t2 at hp
    dsimp only at hp
    simp only [List.mem_cons, List.not_mem_nil, or_false] at hp
    rcases hp with rfl | rfl | rfl | rfl | rfl | rfl | rfl | rfl
    · exact fun x => piece2 7 arg5 arg11 arg12 _ x4 x5 X5 X11 X12 rfl h11 h12 k (k0_off3_inb i k hc) (k0_off4_inb i k hc) (k0_off19 k) (k0_off19_eq k) (k0_off19_inb i k hc) (k0_off20 k) (k0_off20_eq k) (k0_off20_inb i k hc) x
    · exact fun x => piece2 6 arg5 arg11 arg12 _ x4 x5 X5 X11 X12 rfl h11 h12 k (k0_off3_inb i k hc) (k0_off4_inb i k hc) (k0_off17 k) (k0_off17_eq k) (k0_off17_inb i k hc) (k0_off18 k) (k0_off18_eq k) (k0_off18_inb i k hc) x
    · exact fun x => piece2 5 arg5 arg11 arg12 _ x4 x5 X5 X11 X12 rfl h11 h12 k (k0_off3_inb i k hc) (k0_off4_inb i k hc) (k0_off15 k) (k0_off15_eq k) (k0_off15_inb i k hc) (k0_off16 k) (k0_off16_eq k) (k0_off16_inb i k hc) x
    · exact fun x => piece2 4 arg5 arg11 arg12 _ x4 x5 X5 X11 X12 rfl h11 h12 k (k0_off3_inb i k hc) (k0_off4_inb i k hc) (k0_off13 k) (k0_off13_eq k) (k0_off13_inb i k hc) (k0_off14 k) (k0_off14_eq k) (k0_off14_inb i k hc) x
    · exact fun x => piece2 3 arg5 arg11 arg12 _ x4 x5 X5 X11 X12 rfl h11 h12 k (k0_off3_inb i k hc) (k0_off4_inb i k hc) (k0_off11 k) (k0_off11_eq k) (k0_off11_inb i k hc) (k0_off12 k) (k0_off12_eq k) (k0_off12_inb i k hc) x
    · exact fun x => piece2 2 arg5 arg11 arg12 _ x4 x5 X5 X11 X12 rfl h11 h12 k (k0_off3_inb i k hc) (k0_off4_inb i k hc) (k0_off9 k) (k0_off9_eq k) (k0_off9_inb i k hc) (k0_off10 k) (k0_off10_eq k) (k0_off10_inb i k hc) x
    · exact fun x => piece2 1 arg5 arg11 arg12 _ x4 x5 X5 X11 X12 rfl h11 h12 k (k0_off3_inb i k hc) (k0_off4_inb i k hc) (k0_off7 k) (k0_off7_eq k) (k0_off7_inb i k hc) (k0_off8 k) (k0_off8_eq k) (k0_off8_inb i k hc) x
    · exact fun x => piece2 0 arg5 arg11 arg12 _ x4 x5 X5 X11 X12 rfl h11 h12 k (k0_off3_inb i k hc) (k0_off4_inb i k hc) (k0_off5 k) (k0_off5_eq k) (k0_off5_inb i k hc) (k0_off6 k) (k0_off6_eq k) (k0_off6_inb i k hc) x
  · have hy0 : (y 0).val < 6144 := (y 0).isLt
    have hy1 : (y 1).val < 1024 := (y 1).isLt
    have hk : (y 0).val / 128 < k0_t2_loop.trips := by rw [trips2]; omega
    have ho : ∃ p ∈ tripL_k0_t2 (F := Ideal) 𝒱 c bd i arg2 harg2 arg3 harg3 arg4 harg4 arg5 harg5 arg6 harg6 arg7 harg7 arg8 harg8 arg9 harg9 arg10 harg10 arg11 harg11 arg12 harg12 hc X5 X11 X12 ⟨(y 0).val / 128, hk⟩, y ∈ p.1.set := by
      have key : ∀ (o : ℕ) (off : Fin 2 → ℕ) (h : off = ![128 * ((y 0).val / 128), 128 * o]) (inb : ∀ a, off a + S128x128.size a ≤ S6144x1024.size a),
          (y 1).val / 128 = o → y ∈ (Rect.unit (s := S6144x1024) off S128x128.size inb).set := by
        intro o off h inb ho
        subst h
        rw [Rect.mem_set_unit]
        intro a
        match a with
        | ⟨0, _⟩ =>
          show 128 * ((y 0).val / 128) ≤ (y 0).val ∧ (y 0).val < 128 * ((y 0).val / 128) + 128
          omega
        | ⟨1, _⟩ =>
          show 128 * o ≤ (y 1).val ∧ (y 1).val < 128 * o + 128
          omega
      unfold tripL_k0_t2 trip_k0_t2
      dsimp only
      simp only [List.exists_mem_cons_iff]
      have h8 : (y 1).val / 128 = 7 ∨ (y 1).val / 128 = 6 ∨ (y 1).val / 128 = 5 ∨ (y 1).val / 128 = 4 ∨ (y 1).val / 128 = 3 ∨ (y 1).val / 128 = 2 ∨ (y 1).val / 128 = 1 ∨ (y 1).val / 128 = 0 := by omega
      rcases h8 with h | h | h | h | h | h | h | h
      · exact .inl (key 7 _ (k0_off20_eq _) _ h)
      · exact .inr (.inl (key 6 _ (k0_off18_eq _) _ h))
      · exact .inr (.inr (.inl (key 5 _ (k0_off16_eq _) _ h)))
      · exact .inr (.inr (.inr (.inl (key 4 _ (k0_off14_eq _) _ h))))
      · exact .inr (.inr (.inr (.inr (.inl (key 3 _ (k0_off12_eq _) _ h)))))
      · exact .inr (.inr (.inr (.inr (.inr (.inl (key 2 _ (k0_off10_eq _) _ h))))))
      · exact .inr (.inr (.inr (.inr (.inr (.inr (.inl (key 1 _ (k0_off8_eq _) _ h)))))))
      · exact .inr (.inr (.inr (.inr (.inr (.inr (.inr (.inl (key 0 _ (k0_off6_eq _) _ h))))))))
    obtain ⟨p, hp, hy⟩ := ho
    exact ⟨p, (mem_pb2 (hn := le_refl _) ..).mpr ⟨⟨(y 0).val / 128, hk⟩, hk, hp⟩, hy⟩

end Loops

end Cert.KernelIdeal.Val

end
-- ==== Proof.Conds.lean ====
module

public import proofs.«01_k».proof.Proof.Gen.KernelIdeal.Frame
public import proofs.«01_k».proof.Proof.Gen.KernelIdeal.Loops
public import proofs.«01_k».proof.Proof.Gen.KernelIdeal.Points
public import Idealize.ShloMosaic.Lib.Claim
public import Idealize.ShloMosaic.Lib.BitcastPair
public import Idealize.ShloMosaic.Lib.KernelVsHost
public import Idealize.ShloMosaic.Lib.Pointwise
public import proofs.«01_k».proof.Proof.Trips
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Words

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the points before point 3 — by arithmetic of the point. -/
theorem hcond0_0 : ∀ t : Fin cfg0.N, cond0_0 (grid0.coords t) ↔ t.val < 3 :=
  (fun t => by
    have ht : t.val < 60 := Nat.lt_of_lt_of_eq t.isLt N_0
    have e0 : (grid0.coords t 0).val = t.val / 3 % 20 := Pipeline.Grid.coords_val t 0 (by decide) rfl
    have e1 : (grid0.coords t 1).val = t.val / 1 % 3 := Pipeline.Grid.coords_val t 1 (by decide) rfl
    simp only [cond0_0, k0_cond1, e0, e1]
    word_cmp
   : ∀ t : Fin grid0.N, cond0_0 (grid0.coords t) ↔ t.val < 3)

/-- The condition of the body's `scf.if` 1 (`k0_h2`), from the grid coordinates (the skeleton's scalar
    chain substituted). -/
abbrev cond0_1 (i : grid0.Coords) : Prop := k0_cond2 i = 1#1
/-- It holds at the points ≡ 0 (mod 3) — by arithmetic of the point. -/
theorem hcond0_1 : ∀ t : Fin cfg0.N, cond0_1 (grid0.coords t) ↔ t.val % 3 = 0 :=
  (fun t => by
    have ht : t.val < 60 := Nat.lt_of_lt_of_eq t.isLt N_0
    have e0 : (grid0.coords t 0).val = t.val / 3 % 20 := Pipeline.Grid.coords_val t 0 (by decide) rfl
    have e1 : (grid0.coords t 1).val = t.val / 1 % 3 := Pipeline.Grid.coords_val t 1 (by decide) rfl
    simp only [cond0_1, k0_cond2, e0, e1]
    word_cmp
   : ∀ t : Fin grid0.N, cond0_1 (grid0.coords t) ↔ t.val % 3 = 0)

/-! ## The kernel body on any staging memrefs: a subtype the run finds -/

/-- Each window's current staging memref at point `t`, spelled as the pipeline passes it (`bodyAt0`), and its wholeness. -/
abbrev ms0_0 (t : Fin cfg0.N) : Memref sig .tc .vmem S512x6144 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x6144 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S6144x128 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S48x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S48x128 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1024 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S1536x6144 .bf16 := Memref.whole cc0_scratch0
abbrev scM0_1 : Memref sig .tc .vmem S6144x1024 .bf16 := Memref.whole cc0_scratch1
abbrev scM0_2 : Memref sig .tc .vmem S8x48x128 .i32 := Memref.whole cc0_scratch2
abbrev scM0_3 : Memref sig .tc .vmem S8x48x128 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Val

end
-- ==== Proof.RunD.lean ====
module

public import proofs.«01_k».proof.Proof.Gen.KernelIdeal.Frame
public import proofs.«01_k».proof.Proof.Gen.KernelIdeal.Loops
public import proofs.«01_k».proof.Proof.Gen.KernelIdeal.Points
public import Idealize.ShloMosaic.Lib.Claim
public import Idealize.ShloMosaic.Lib.BitcastPair
public import Idealize.ShloMosaic.Lib.KernelVsHost
public import Idealize.ShloMosaic.Lib.Pointwise
public import proofs.«01_k».proof.Proof.Conds

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Words

local notation "𝕄" => MT nD τ sig Unit (Elt Ideal) ℕ (UR sig nD τ) ℕ

/-- What a point stores of its output block: the rows of the normalized scratch against the weight scratch, plus the bias. -/
def OUTV (m : ℕ) (hm : m < 3) (X : S1536x6144.Idx → EReal) (W : S6144x1024.Idx → EReal) (b : S1x1024.Idx → EReal) (y : S512x1024.Idx) : EReal :=
  ∑ k : Fin 6144, X (ix2 ⟨512 * m + (y 0).val, by have : (y 0).val < 512 := (y 0).isLt; omega⟩ k) * W (ix2 k (y 1)) + b (ix2 0 (y 1))

/-- How a point changes the two scratches: at the first tile the point's rows become the normalized rows, at the first chunk of rows the weight tile. -/
structure Step (i : grid0.Coords) (x0 : S512x6144.Idx → EReal) (x1 : S1x6144.Idx → EReal) (x3 : S6144x128.Idx → BitVec 32)
    (x4 : S48x1024.Idx → EReal) (x5 : S48x128.Idx → BitVec 32) (d9 X : S1536x6144.Idx → EReal) (d10 W : S6144x1024.Idx → EReal) : Prop where
  norm : cond0_0 i → ∀ y : S1536x6144.Idx, 512 * (i 1).val ≤ (y 0).val → (y 0).val < 512 * (i 1).val + 512 → X y = NT x0 x1 (i 1).val y
  rest : cond0_0 i → ∀ y : S1536x6144.Idx, ((y 0).val < 512 * (i 1).val ∨ 512 * (i 1).val + 512 ≤ (y 0).val) → X y = d9 y
  keepX : ¬ cond0_0 i → X = d9
  tile : cond0_1 i → W = WD x3 x4 x5
  keepW : ¬ cond0_1 i → W = d10

theorem coord1_lt (i : grid0.Coords) : (i 1).val < 3 := (i 1).isLt

/-- The point's one store into its output block, at contents the loads read. -/
theorem out_read (i : grid0.Coords) (arg4 : Memref sig .tc .vmem S1x1024 .f32) (arg8 : Memref sig .tc .vmem S512x1024 .bf16)
    (arg9 : Memref sig .tc .vmem S1536x6144 .bf16) (arg10 : Memref sig .tc .vmem S6144x1024 .bf16)
    (X4 : BufTy.Contents (Elt Ideal) arg4.view.ty) (G8 : BufTy.Contents (Elt Ideal) arg8.view.ty)
    (X9 : BufTy.Contents (Elt Ideal) arg9.view.ty) (X10 : BufTy.Contents (Elt Ideal) arg10.view.ty)
    (j8 : ∀ a, (![0, 0] : Fin 2 → ℕ) a + S512x1024.size a ≤ S512x1024.size a)
    (j9 : ∀ a, k0_off21 i a + S512x6144.size a ≤ S1536x6144.size a) (j10 : ∀ a, (![0, 0] : Fin 2 → ℕ) a + S6144x1024.size a ≤ S6144x1024.size a)
    (j4 : ∀ a, (![0, 0] : Fin 2 → ℕ) a + S1x1024.size a ≤ S1x1024.size a) :
    arg8.view.read (Elt Ideal) (arg8.view.writes (Elt Ideal) G8 [⟨Rect.unit (s := S512x1024) ![0, 0] S512x1024.size j8,
        k0_pay4 (F := Ideal) (View.readAt (Elt Ideal) arg9.view (Rect.unit (s := S1536x6144) (k0_off21 i) S512x6144.size j9).toLoadRect X9)
          (View.readAt (Elt Ideal) arg10.view (Rect.unit (s := S6144x1024) ![0, 0] S6144x1024.size j10).toLoadRect X10)
          (View.readAt (Elt Ideal) arg4.view (Rect.unit (s := S1x1024) ![0, 0] S1x1024.size j4).toLoadRect X4)⟩])
      = OUTV (i 1).val (coord1_lt i) (arg9.view.read (Elt Ideal) X9) (arg10.view.read (Elt Ideal) X10) (arg4.view.read (Elt Ideal) X4) := by
  funext y
  refine View.read_writes_apply_of_pieces (Val := Elt Ideal) (e := .bf16) _ _ (OUTV (i 1).val (coord1_lt i) (arg9.view.read (Elt Ideal) X9) (arg10.view.read (Elt Ideal) X10) (arg4.view.read (Elt Ideal) X4)) _ ?_ y ?_
  · intro p hp x
    obtain rfl := List.mem_singleton.mp hp
    refine ((congrArg _ (eq_ix2 x)).trans (pay4_apply _ _ _ (x 0) (x 1))).trans ?_
    have e : (Rect.unit (s := S512x1024) ![0, 0] S512x1024.size j8).emb x = x := by
      funext b
      match b with
      | ⟨0, _⟩ => apply Fin.ext; show 0 + 1 * (x 0).val = (x 0).val; omega
      | ⟨1, _⟩ => apply Fin.ext; show 0 + 1 * (x 1).val = (x 1).val; omega
    refine Eq.trans ?_ (congrArg (OUTV (i 1).val (coord1_lt i) (arg9.view.read (Elt Ideal) X9) (arg10.view.read (Elt Ideal) X10) (arg4.view.read (Elt Ideal) X4)) e.symm)
    unfold OUTV
    congr 1
    · refine Finset.sum_congr rfl fun k _ => ?_
      rw [View.readAt_apply, View.readAt_apply]
      congr 2
      · funext b
        match b with
        | ⟨0, _⟩ => apply Fin.ext; show k0_off21 i 0 + 1 * (x 0).val = 512 * (i 1).val + (x 0).val; have h : k0_off21 i 0 = 512 * (i 1).val := congrFun (k0_off21_eq i) 0; omega
        | ⟨1, _⟩ => apply Fin.ext; show k0_off21 i 1 + 1 * k.val = k.val; have h : k0_off21 i 1 = 0 := congrFun (k0_off21_eq i) 1; omega
      · funext b
        match b with
        | ⟨0, _⟩ => apply Fin.ext; show 0 + 1 * k.val = k.val; omega
        | ⟨1, _⟩ => apply Fin.ext; show 0 + 1 * (x 1).val = (x 1).val; omega
    · rw [View.readAt_apply]
      congr 1
      funext b
      match b with
      | ⟨0, _⟩ => rfl
      | ⟨1, _⟩ => apply Fin.ext; show 0 + 1 * (x 1).val = (x 1).val; omega
  · refine ⟨_, List.mem_singleton.mpr rfl, ?_⟩
    rw [Rect.mem_set_unit]
    intro a
    match a with
    | ⟨0, _⟩ => have : (y 0).val < 512 := (y 0).isLt; exact ⟨Nat.zero_le _, by show (y 0).val < 0 + 512; omega⟩
    | ⟨1, _⟩ => have : (y 1).val < 1024 := (y 1).isLt; exact ⟨Nat.zero_le _, by show (y 1).val < 0 + 1024; omega⟩

set_option maxHeartbeats 1000000 in
/-- The body at a point of case D: the inputs kept, the scratches stepped, the output block at its values. -/
theorem run_D (c : Dev nD) (i : grid0.Coords) (arg2 : Memref sig .tc .vmem S512x6144 .bf16) (harg2 : arg2.IsWhole) (arg3 : Memref sig .tc .vmem S1x6144 .f32) (harg3 : arg3.IsWhole) (arg4 : Memref sig .tc .vmem S1x1024 .f32) (harg4 : arg4.IsWhole) (arg5 : Memref sig .tc .vmem S6144x128 .i32) (harg5 : arg5.IsWhole) (arg6 : Memref sig .tc .vmem S48x1024 .bf16) (harg6 : arg6.IsWhole) (arg7 : Memref sig .tc .vmem S48x128 .i32) (harg7 : arg7.IsWhole) (arg8 : Memref sig .tc .vmem S512x1024 .bf16) (harg8 : arg8.IsWhole) (arg9 : Memref sig .tc .vmem S1536x6144 .bf16) (harg9 : arg9.IsWhole) (arg10 : Memref sig .tc .vmem S6144x1024 .bf16) (harg10 : arg10.IsWhole) (arg11 : Memref sig .tc .vmem S8x48x128 .i32) (harg11 : arg11.IsWhole) (arg12 : Memref sig .tc .vmem S8x48x128 .f32) (harg12 : arg12.IsWhole) (hc0 : ¬ cond0_0 i) (hc1 : ¬ cond0_1 i)
    (x0 : Vec Ideal S512x6144 .bf16) (x1 : Vec Ideal S1x6144 .f32) (x2 : Vec Ideal S1x1024 .f32) (x3 : Vec Ideal S6144x128 .i32) (x4 : Vec Ideal S48x1024 .bf16) (x5 : Vec Ideal S48x128 .i32) (d9 : Vec Ideal S1536x6144 .bf16) (d10 : Vec Ideal S6144x1024 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare d9 ∗ owns (c : Thread nD τ) arg10 fullShare d10 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ X W, ⌜Step i x0 x1 x3 x4 x5 d9 X d10 W⌝ ∗ owns (c : Thread nD τ) arg8 fullShare (OUTV (i 1).val (coord1_lt i) X W x2) ∗ owns (c : Thread nD τ) arg9 fullShare X ∗ owns (c : Thread nD τ) arg10 fullShare W) ∗ (∃ d, owns (c : Thread nD τ) arg11 fullShare d) ∗ (∃ d, owns (c : Thread nD τ) arg12 fullShare d)) -∗ K ⟨⟩))
          ⊢ wp frame (wpE (defs₀ (F := Ideal)) Variants.none c none) E (cc0_rmsnorm_awq_linear i arg2 harg2 arg3 harg3 arg4 harg4 arg5 harg5 arg6 harg6 arg7 harg7 arg8 harg8 arg9 harg9 arg10 harg10 arg11 harg11 arg12 harg12) K := by
    intro E K
    simp only [cc0_rmsnorm_awq_linear_eq_skeleton]; unfold cc0_rmsnorm_awq_linear_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6 HS0 HS1]
    · iexists _, _
      isplitr
      swap
      · isplitl [H6]
        · iexists _; isplitr; swap; · iexact H6
          ipureintro; exact (out_read i arg4 arg8 arg9 arg10 _ _ _ _ _ _ _ _).trans (congrArg _ (harg4.read_unread _))
        isplitl [HS0]
        · iexists _; isplitr; swap; · iexact HS0
          ipureintro; rfl
        iexists _; isplitr; swap; · iexact HS1
        ipureintro; rfl
      ipureintro
      exact ⟨fun h => absurd h hc0, fun h => absurd h hc0, fun _ => hfs0, fun h => absurd h hc1, fun _ => hfs1⟩
    isplitl [HS2]
    · iexists _, _; isplitr; swap; · iexact HS2
      ipureintro; rfl
    iexists _, _; isplitr; swap; · iexact HS3
    ipureintro; rfl

end Cert.KernelIdeal.Val

end
-- ==== Proof.Full.lean ====
module

public import proofs.«01_k».proof.Proof.Gen.KernelIdeal.Frame
public import proofs.«01_k».proof.Proof.Gen.KernelIdeal.Loops
public import proofs.«01_k».proof.Proof.Gen.KernelIdeal.Points
public import Idealize.ShloMosaic.Lib.Claim
public import Idealize.ShloMosaic.Lib.BitcastPair
public import Idealize.ShloMosaic.Lib.KernelVsHost
public import Idealize.ShloMosaic.Lib.Pointwise
public import proofs.«01_k».proof.Proof.RunD

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Words

local notation "𝕄" => MT nD τ sig Unit (Elt Ideal) ℕ (UR sig nD τ) ℕ

/-! ## The kernel's function of its arrays -/

/-- The normalized activations: row `y 0`'s element over its root mean square, times the gain. -/
def XNf (AX : S1536x6144.Idx → EReal) (AG : S1x6144.Idx → EReal) (y : S1536x6144.Idx) : EReal :=
  normAt (fun j => AX (ix2 (y 0) j)) (AG (ix2 0 (y 1))) (y 1)

/-- The weights: column `n` of row `k` is (code − zero point) · scale, the codes packed eight to a word. -/
def WTf (AW : S6144x2560.Idx → BitVec 32) (AS : S48x20480.Idx → EReal) (AZ : S48x2560.Idx → BitVec 32) (k : Fin 6144) (n : Fin 20480) : EReal :=
  ((((nib (AW (ix2 k ⟨n.val / 8, by omega⟩)) (fld n.val)).toInt : ℝ) : EReal)
    - (((nib (AZ (ix2 ⟨k.val / 128, by omega⟩ ⟨n.val / 8, by omega⟩)) (fld n.val)).toInt : ℝ) : EReal))
    * AS (ix2 ⟨k.val / 128, by omega⟩ n)

/-- The result: the normalized activations against the weights, plus the bias. -/
def OUTf (AX : S1536x6144.Idx → EReal) (AG : S1x6144.Idx → EReal) (AB : S1x20480.Idx → EReal)
    (AW : S6144x2560.Idx → BitVec 32) (AS : S48x20480.Idx → EReal) (AZ : S48x2560.Idx → BitVec 32) (y : S1536x20480.Idx) : EReal :=
  ∑ k : Fin 6144, XNf AX AG (ix2 (y 0) k) * WTf AW AS AZ k (y 1) + AB (ix2 0 (y 1))

/-! ## The windows' blocks, elementwise -/

theorem pt0 (t : Fin cfg0.N) : (grid0.coords t 0).val = t.val / 3 % 20 := Pipeline.Grid.coords_val t 0 (by decide) rfl
theorem pt1 (t : Fin cfg0.N) : (grid0.coords t 1).val = t.val % 3 := by
  have e : (grid0.coords t 1).val = t.val / 1 % 3 := Pipeline.Grid.coords_val t 1 (by decide) rfl
  rw [e, Nat.div_one]

theorem lt60 (t : Fin cfg0.N) : t.val < 60 := Nat.lt_of_lt_of_eq t.isLt N_0

theorem wi0 : ∀ t : Fin cfg0.N, t.val < 3 → win0_0.index t 0 = t.val ∧ win0_0.index t 1 = 0 := by decide +kernel
theorem wi1 : ∀ t : Fin cfg0.N, win0_1.index t 0 = 0 ∧ win0_1.index t 1 = 0 := by decide +kernel
theorem wi2 : ∀ t : Fin cfg0.N, win0_2.index t 0 = 0 ∧ win0_2.index t 1 = t.val / 3 := by decide +kernel
theorem wi3 : ∀ t : Fin cfg0.N, win0_3.index t 0 = 0 ∧ win0_3.index t 1 = t.val / 3 := by decide +kernel
theorem wi4 : ∀ t : Fin cfg0.N, win0_4.index t 0 = 0 ∧ win0_4.index t 1 = t.val / 3 := by decide +kernel
theorem wi5 : ∀ t : Fin cfg0.N, win0_5.index t 0 = 0 ∧ win0_5.index t 1 = t.val / 3 := by decide +kernel
theorem wi6 : ∀ t : Fin cfg0.N, win0_6.index t 0 = t.val % 3 ∧ win0_6.index t 1 = t.val / 3 := by decide +kernel

variable (m : (ℓ : Loc nD τ sig) → Buf (Elt Ideal) ℓ)

theorem iblk0_apply (c : Dev nD) (t : Fin cfg0.N) (h : t.val < 3) (r : Fin 512) (k : Fin 6144) :
    iblk (F := Ideal) m c 0 t (ix2 r k) = V m c main_v0 (ix2 ⟨512 * t.val + r.val, by have := lt60 t; omega⟩ ⟨0 + k.val, by have := lt60 t; omega⟩) := by
  unfold iblk
  show V m c main_v0 ((win0_0.rect t).emb (ix2 r k)) = _
  congr 1
  have e := (wi0 t h)
  funext b
  match b with
  | ⟨0, _⟩ =>
    apply Fin.ext
    refine (Pipeline.Window.rect_emb_val win0_0 t (ix2 r k) 0).trans ?_
    rw [e.1]
    show _ * 512 + r.val = 512 * t.val + r.val
    omega
  | ⟨1, _⟩ =>
    apply Fin.ext
    refine (Pipeline.Window.rect_emb_val win0_0 t (ix2 r k) 1).trans ?_
    rw [e.2]
    show _ * 6144 + k.val = 0 + k.val
    omega

theorem iblk1_apply (c : Dev nD) (t : Fin cfg0.N) (r : Fin 1) (k : Fin 6144) :
    iblk (F := Ideal) m c 1 t (ix2 r k) = V m c main_v1 (ix2 ⟨0 + r.val, by have := lt60 t; omega⟩ ⟨0 + k.val, by have := lt60 t; omega⟩) := by
  unfold iblk
  show V m c main_v1 ((win0_1.rect t).emb (ix2 r k)) = _
  congr 1
  have e := (wi1 t)
  funext b
  match b with
  | ⟨0, _⟩ =>
    apply Fin.ext
    refine (Pipeline.Window.rect_emb_val win0_1 t (ix2 r k) 0).trans ?_
    rw [e.1]
    show _ * 1 + r.val = 0 + r.val
    omega
  | ⟨1, _⟩ =>
    apply Fin.ext
    refine (Pipeline.Window.rect_emb_val win0_1 t (ix2 r k) 1).trans ?_
    rw [e.2]
    show _ * 6144 + k.val = 0 + k.val
    omega

theorem iblk2_apply (c : Dev nD) (t : Fin cfg0.N) (r : Fin 1) (k : Fin 1024) :
    iblk (F := Ideal) m c 2 t (ix2 r k) = V m c main_v2 (ix2 ⟨0 + r.val, by have := lt60 t; omega⟩ ⟨1024 * (t.val / 3) + k.val, by have := lt60 t; omega⟩) := by
  unfold iblk
  show V m c main_v2 ((win0_2.rect t).emb (ix2 r k)) = _
  congr 1
  have e := (wi2 t)
  funext b
  match b with
  | ⟨0, _⟩ =>
    apply Fin.ext
    refine (Pipeline.Window.rect_emb_val win0_2 t (ix2 r k) 0).trans ?_
    rw [e.1]
    show _ * 1 + r.val = 0 + r.val
    omega
  | ⟨1, _⟩ =>
    apply Fin.ext
    refine (Pipeline.Window.rect_emb_val win0_2 t (ix2 r k) 1).trans ?_
    rw [e.2]
    show _ * 1024 + k.val = 1024 * (t.val / 3) + k.val
    omega

theorem iblk3_apply (c : Dev nD) (t : Fin cfg0.N) (r : Fin 6144) (k : Fin 128) :
    iblk (F := Ideal) m c 3 t (ix2 r k) = V m c main_arg3 (ix2 ⟨0 + r.val, by have := lt60 t; omega⟩ ⟨128 * (t.val / 3) + k.val, by have := lt60 t; omega⟩) := by
  unfold iblk
  show V m c main_arg3 ((win0_3.rect t).emb (ix2 r k)) = _
  congr 1
  have e := (wi3 t)
  funext b
  match b with
  | ⟨0, _⟩ =>
    apply Fin.ext
    refine (Pipeline.Window.rect_emb_val win0_3 t (ix2 r k) 0).trans ?_
    rw [e.1]
    show _ * 6144 + r.val = 0 + r.val
    omega
  | ⟨1, _⟩ =>
    apply Fin.ext
    refine (Pipeline.Window.rect_emb_val win0_3 t (ix2 r k) 1).trans ?_
    rw [e.2]
    show _ * 128 + k.val = 128 * (t.val / 3) + k.val
    omega

theorem iblk4_apply (c : Dev nD) (t : Fin cfg0.N) (r : Fin 48) (k : Fin 1024) :
    iblk (F := Ideal) m c 4 t (ix2 r k) = V m c main_arg4 (ix2 ⟨0 + r.val, by have := lt60 t; omega⟩ ⟨1024 * (t.val / 3) + k.val, by have := lt60 t; omega⟩) := by
  unfold iblk
  show V m c main_arg4 ((win0_4.rect t).emb (ix2 r k)) = _
  congr 1
  have e := (wi4 t)
  funext b
  match b with
  | ⟨0, _⟩ =>
    apply Fin.ext
    refine (Pipeline.Window.rect_emb_val win0_4 t (ix2 r k) 0).trans ?_
    rw [e.1]
    show _ * 48 + r.val = 0 + r.val
    omega
  | ⟨1, _⟩ =>
    apply Fin.ext
    refine (Pipeline.Window.rect_emb_val win0_4 t (ix2 r k) 1).trans ?_
    rw [e.2]
    show _ * 1024 + k.val = 1024 * (t.val / 3) + k.val
    omega

theorem iblk5_apply (c : Dev nD) (t : Fin cfg0.N) (r : Fin 48) (k : Fin 128) :
    iblk (F := Ideal) m c 5 t (ix2 r k) = V m c main_arg5 (ix2 ⟨0 + r.val, by have := lt60 t; omega⟩ ⟨128 * (t.val / 3) + k.val, by have := lt60 t; omega⟩) := by
  unfold iblk
  show V m c main_arg5 ((win0_5.rect t).emb (ix2 r k)) = _
  congr 1
  have e := (wi5 t)
  funext b
  match b with
  | ⟨0, _⟩ =>
    apply Fin.ext
    refine (Pipeline.Window.rect_emb_val win0_5 t (ix2 r k) 0).trans ?_
    rw [e.1]
    show _ * 48 + r.val = 0 + r.val
    omega
  | ⟨1, _⟩ =>
    apply Fin.ext
    refine (Pipeline.Window.rect_emb_val win0_5 t (ix2 r k) 1).trans ?_
    rw [e.2]
    show _ * 128 + k.val = 128 * (t.val / 3) + k.val
    omega

/-! ## What the scratches hold, point by point -/

/-- Device `c`'s normalized activations, weights and result. -/
def XN (c : Dev nD) : S1536x6144.Idx → EReal := XNf (V m c main_v0) (V m c main_v1)
def WT (c : Dev nD) : Fin 6144 → Fin 20480 → EReal := WTf (V m c main_arg3) (V m c main_arg4) (V m c main_arg5)
def OUT (c : Dev nD) : S1536x20480.Idx → EReal :=
  OUTf (V m c main_v0) (V m c main_v1) (V m c main_v2) (V m c main_arg3) (V m c main_arg4) (V m c main_arg5)

/-- A column of the tile of point `n`. -/
def col (n : ℕ) (q : Fin 1024) : Fin 20480 := ⟨(1024 * (n / 3) + q.val) % 20480, by omega⟩

/-- Before point `n`: the rows already normalized hold the normalized activations; inside a tile's run of points the weight scratch holds the tile. -/
structure Inv (c : Dev nD) (n : ℕ) (X : S1536x6144.Idx → EReal) (W : S6144x1024.Idx → EReal) : Prop where
  rows : ∀ y : S1536x6144.Idx, (y 0).val < 512 * n → X y = XN m c y
  tile : n % 3 ≠ 0 → ∀ y : S6144x1024.Idx, W y = WT m c (y 0) (col n (y 1))

/-- The block of the result point `t` writes. -/
def outBlk (c : Dev nD) (t : Fin cfg0.N) (y : S512x1024.Idx) : EReal :=
  OUT m c (ix2 ⟨512 * (t.val % 3) + (y 0).val, by have : (y 0).val < 512 := (y 0).isLt; omega⟩ (col t.val (y 1)))

theorem nt_eq (c : Dev nD) (t : Fin cfg0.N) (h : t.val < 3) (y : S1536x6144.Idx) (h0 : 512 * t.val ≤ (y 0).val) (h1 : (y 0).val < 512 * t.val + 512) :
    NT (iblk (F := Ideal) m c 0 t) (iblk (F := Ideal) m c 1 t) t.val y = XN m c y := by
  unfold NT XN XNf
  have e1 : (iblk (F := Ideal) m c 1 t) (ix2 0 (y 1)) = V m c main_v1 (ix2 0 (y 1)) := by
    refine (iblk1_apply m c t 0 (y 1)).trans (congrArg (V m c main_v1) ?_)
    funext b
    match b with
    | ⟨0, _⟩ => rfl
    | ⟨1, _⟩ => apply Fin.ext; show 0 + (y 1).val = (y 1).val; omega
  rw [e1]
  refine congrArg (fun f => normAt f _ (y 1)) ?_
  funext j
  refine (iblk0_apply m c t h _ j).trans (congrArg (V m c main_v0) ?_)
  funext b
  match b with
  | ⟨0, _⟩ => apply Fin.ext; show 512 * t.val + ((y 0).val - 512 * t.val) % 512 = (y 0).val; omega
  | ⟨1, _⟩ => apply Fin.ext; show 0 + j.val = j.val; omega

theorem wd_ix (c : Dev nD) (t : Fin cfg0.N) (k : Fin 6144) (q : Fin 1024) :
    WD (iblk (F := Ideal) m c 3 t) (iblk (F := Ideal) m c 4 t) (iblk (F := Ideal) m c 5 t) (ix2 k q) = WT m c k (col t.val q) := by
  have ht := lt60 t
  have hf : fld (col t.val q).val = fld q.val := by
    unfold fld col; dsimp only; omega
  have e3 : (iblk (F := Ideal) m c 3 t) (ix2 k ⟨q.val / 8, by omega⟩) = V m c main_arg3 (ix2 k ⟨(col t.val q).val / 8, by unfold col; dsimp only; omega⟩) := by
    refine (iblk3_apply m c t _ _).trans (congrArg (V m c main_arg3) ?_)
    funext b
    match b with
    | ⟨0, _⟩ => apply Fin.ext; show 0 + k.val = k.val; omega
    | ⟨1, _⟩ => apply Fin.ext; show 128 * (t.val / 3) + q.val / 8 = (1024 * (t.val / 3) + q.val) % 20480 / 8; omega
  have e5 : (iblk (F := Ideal) m c 5 t) (ix2 ⟨k.val / 128, by omega⟩ ⟨q.val / 8, by omega⟩)
      = V m c main_arg5 (ix2 ⟨k.val / 128, by omega⟩ ⟨(col t.val q).val / 8, by unfold col; dsimp only; omega⟩) := by
    refine (iblk5_apply m c t _ _).trans (congrArg (V m c main_arg5) ?_)
    funext b
    match b with
    | ⟨0, _⟩ => apply Fin.ext; show 0 + k.val / 128 = k.val / 128; omega
    | ⟨1, _⟩ => apply Fin.ext; show 128 * (t.val / 3) + q.val / 8 = (1024 * (t.val / 3) + q.val) % 20480 / 8; omega
  have e4 : (iblk (F := Ideal) m c 4 t) (ix2 ⟨k.val / 128, by omega⟩ q) = V m c main_arg4 (ix2 ⟨k.val / 128, by omega⟩ (col t.val q)) := by
    refine (iblk4_apply m c t _ _).trans (congrArg (V m c main_arg4) ?_)
    funext b
    match b with
    | ⟨0, _⟩ => apply Fin.ext; show 0 + k.val / 128 = k.val / 128; omega
    | ⟨1, _⟩ => apply Fin.ext; show 1024 * (t.val / 3) + q.val = (1024 * (t.val / 3) + q.val) % 20480; omega
  unfold WT WTf
  rw [hf, ← e3, ← e5, ← e4]
  rfl

theorem wd_eq (c : Dev nD) (t : Fin cfg0.N) (y : S6144x1024.Idx) :
    WD (iblk (F := Ideal) m c 3 t) (iblk (F := Ideal) m c 4 t) (iblk (F := Ideal) m c 5 t) y = WT m c (y 0) (col t.val (y 1)) :=
  (congrArg _ (eq_ix2 y)).trans (wd_ix m c t (y 0) (y 1))

/-- A point keeps the invariant and writes its block of the result. -/
theorem step_ok (c : Dev nD) (t : Fin cfg0.N) {d9 X : S1536x6144.Idx → EReal} {d10 W : S6144x1024.Idx → EReal} (hi : Inv m c t.val d9 d10)
    (hs : Step (grid0.coords t) (iblk (F := Ideal) m c 0 t) (iblk (F := Ideal) m c 1 t) (iblk (F := Ideal) m c 3 t) (iblk (F := Ideal) m c 4 t) (iblk (F := Ideal) m c 5 t) d9 X d10 W) :
    Inv m c (t.val + 1) X W
      ∧ OUTV (grid0.coords t 1).val (coord1_lt _) X W (iblk (F := Ideal) m c 2 t) = outBlk m c t := by
  have ht := lt60 t
  have hX : ∀ y : S1536x6144.Idx, (y 0).val < 512 * (t.val + 1) → X y = XN m c y := by
    intro y hy
    by_cases h0 : t.val < 3
    · have hc := (hcond0_0 t).mpr h0
      have e1 : (grid0.coords t 1).val = t.val := (pt1 t).trans (Nat.mod_eq_of_lt h0)
      by_cases hr : (y 0).val < 512 * t.val
      · exact (hs.rest hc y (.inl (by rw [e1]; exact hr))).trans (hi.rows y hr)
      · refine (hs.norm hc y (by rw [e1]; omega) (by rw [e1]; omega)).trans ?_
        rw [e1]
        exact nt_eq m c t h0 y (by omega) (by omega)
    · have hc : ¬ cond0_0 (grid0.coords t) := fun h => h0 ((hcond0_0 t).mp h)
      rw [hs.keepX hc]
      have hy' : (y 0).val < 1536 := (y 0).isLt
      exact hi.rows y (by omega)
  have hW : ∀ y : S6144x1024.Idx, W y = WT m c (y 0) (col t.val (y 1)) := by
    intro y
    by_cases h1 : t.val % 3 = 0
    · rw [hs.tile ((hcond0_1 t).mpr h1)]
      exact wd_eq m c t y
    · rw [hs.keepW fun h => h1 ((hcond0_1 t).mp h)]
      exact hi.tile h1 y
  refine ⟨⟨hX, fun h y => ?_⟩, ?_⟩
  · have e : col (t.val + 1) (y 1) = col t.val (y 1) := by
      apply Fin.ext; show (1024 * ((t.val + 1) / 3) + (y 1).val) % 20480 = (1024 * (t.val / 3) + (y 1).val) % 20480
      have : (t.val + 1) / 3 = t.val / 3 := by omega
      rw [this]
    exact (hW y).trans (congrArg (WT m c (y 0)) e.symm)
  · funext y
    have hy0 : (y 0).val < 512 := (y 0).isLt
    have hy1 : (y 1).val < 1024 := (y 1).isLt
    have e1 : (grid0.coords t 1).val = t.val % 3 := pt1 t
    unfold OUTV outBlk OUT OUTf
    congr 1
    · refine Finset.sum_congr rfl fun k _ => ?_
      rw [hW, hX _ (by show 512 * (grid0.coords t 1).val + (y 0).val < _; rw [e1]; omega)]
      unfold XN WT
      congr 2
      funext b
      match b with
      | ⟨0, _⟩ => apply Fin.ext; show 512 * (grid0.coords t 1).val + (y 0).val = 512 * (t.val % 3) + (y 0).val; rw [e1]
      | ⟨1, _⟩ => rfl
    · refine (iblk2_apply m c t 0 (y 1)).trans (congrArg (V m c main_v2) ?_)
      funext b
      match b with
      | ⟨0, _⟩ => rfl
      | ⟨1, _⟩ => apply Fin.ext; show 1024 * (t.val / 3) + (y 1).val = (1024 * (t.val / 3) + (y 1).val) % 20480; omega

end Cert.KernelIdeal.Val

end
-- ==== Proof.RunB.lean ====
module

public import proofs.«01_k».proof.Proof.Gen.KernelIdeal.Frame
public import proofs.«01_k».proof.Proof.Gen.KernelIdeal.Loops
public import proofs.«01_k».proof.Proof.Gen.KernelIdeal.Points
public import Idealize.ShloMosaic.Lib.Claim
public import Idealize.ShloMosaic.Lib.BitcastPair
public import Idealize.ShloMosaic.Lib.KernelVsHost
public import Idealize.ShloMosaic.Lib.Pointwise
public import proofs.«01_k».proof.Proof.RunD

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Words

local notation "𝕄" => MT nD τ sig Unit (Elt Ideal) ℕ (UR sig nD τ) ℕ

set_option maxHeartbeats 1000000 in
/-- The body at a point of case B: the inputs kept, the scratches stepped, the output block at its values. -/
theorem run_B (c : Dev nD) (i : grid0.Coords) (arg2 : Memref sig .tc .vmem S512x6144 .bf16) (harg2 : arg2.IsWhole) (arg3 : Memref sig .tc .vmem S1x6144 .f32) (harg3 : arg3.IsWhole) (arg4 : Memref sig .tc .vmem S1x1024 .f32) (harg4 : arg4.IsWhole) (arg5 : Memref sig .tc .vmem S6144x128 .i32) (harg5 : arg5.IsWhole) (arg6 : Memref sig .tc .vmem S48x1024 .bf16) (harg6 : arg6.IsWhole) (arg7 : Memref sig .tc .vmem S48x128 .i32) (harg7 : arg7.IsWhole) (arg8 : Memref sig .tc .vmem S512x1024 .bf16) (harg8 : arg8.IsWhole) (arg9 : Memref sig .tc .vmem S1536x6144 .bf16) (harg9 : arg9.IsWhole) (arg10 : Memref sig .tc .vmem S6144x1024 .bf16) (harg10 : arg10.IsWhole) (arg11 : Memref sig .tc .vmem S8x48x128 .i32) (harg11 : arg11.IsWhole) (arg12 : Memref sig .tc .vmem S8x48x128 .f32) (harg12 : arg12.IsWhole) (hc0 : cond0_0 i) (hc1 : ¬ cond0_1 i)
    (x0 : Vec Ideal S512x6144 .bf16) (x1 : Vec Ideal S1x6144 .f32) (x2 : Vec Ideal S1x1024 .f32) (x3 : Vec Ideal S6144x128 .i32) (x4 : Vec Ideal S48x1024 .bf16) (x5 : Vec Ideal S48x128 .i32) (d9 : Vec Ideal S1536x6144 .bf16) (d10 : Vec Ideal S6144x1024 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare d9 ∗ owns (c : Thread nD τ) arg10 fullShare d10 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ X W, ⌜Step i x0 x1 x3 x4 x5 d9 X d10 W⌝ ∗ owns (c : Thread nD τ) arg8 fullShare (OUTV (i 1).val (coord1_lt i) X W x2) ∗ owns (c : Thread nD τ) arg9 fullShare X ∗ owns (c : Thread nD τ) arg10 fullShare W) ∗ (∃ d, owns (c : Thread nD τ) arg11 fullShare d) ∗ (∃ d, owns (c : Thread nD τ) arg12 fullShare d)) -∗ K ⟨⟩))
          ⊢ wp frame (wpE (defs₀ (F := Ideal)) Variants.none c none) E (cc0_rmsnorm_awq_linear i arg2 harg2 arg3 harg3 arg4 harg4 arg5 harg5 arg6 harg6 arg7 harg7 arg8 harg8 arg9 harg9 arg10 harg10 arg11 harg11 arg12 harg12) K := by
    intro E K
    simp only [cc0_rmsnorm_awq_linear_eq_skeleton]; unfold cc0_rmsnorm_awq_linear_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6 HS0 HS1]
    · iexists _, _
      isplitr
      swap
      · isplitl [H6]
        · iexists _; isplitr; swap; · iexact H6
          ipureintro; exact (out_read i arg4 arg8 arg9 arg10 _ _ _ _ _ _ _ _).trans (congrArg _ (harg4.read_unread _))
        isplitl [HS0]
        · iexists _; isplitr; swap; · iexact HS0
          ipureintro; rfl
        iexists _; isplitr; swap; · iexact HS1
        ipureintro; rfl
      ipureintro
      exact ⟨fun _ y h0 h1 => (norm_in _ _ _ i arg2 harg2 arg3 harg3 arg4 harg4 arg5 harg5 arg6 harg6 arg7 harg7 arg8 harg8 arg9 harg9 arg10 harg10 arg11 harg11 arg12 harg12 hc0 _ _ _ y h0 h1).trans (by rw [harg2.read_unread, harg3.read_unread]), fun _ y h => (norm_out _ _ _ i arg2 harg2 arg3 harg3 arg4 harg4 arg5 harg5 arg6 harg6 arg7 harg7 arg8 harg8 arg9 harg9 arg10 harg10 arg11 harg11 arg12 harg12 hc0 _ _ _ y h).trans (congrFun hfs0 y), fun h => absurd hc0 h, fun h => absurd h hc1, fun _ => hfs1⟩
    isplitl [HS2]
    · iexists _, _; isplitr; swap; · iexact HS2
      ipureintro; rfl
    iexists _, _; isplitr; swap; · iexact HS3
    ipureintro; rfl

end Cert.KernelIdeal.Val

end
-- ==== Proof.Prep.lean ====
module

public import proofs.«01_k».proof.Proof.Gen.KernelIdeal.Frame
public import proofs.«01_k».proof.Proof.Gen.KernelIdeal.Loops
public import proofs.«01_k».proof.Proof.Gen.KernelIdeal.Points
public import Idealize.ShloMosaic.Lib.Claim
public import Idealize.ShloMosaic.Lib.BitcastPair
public import Idealize.ShloMosaic.Lib.KernelVsHost
public import Idealize.ShloMosaic.Lib.Pointwise
public import proofs.«01_k».proof.Proof.Conds

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Words

local notation "𝕄" => MT nD τ sig Unit (Elt Ideal) ℕ (UR sig nD τ) ℕ

theorem slot_emb (o : ℕ) (ho : o < 8) (j : ∀ a, (![o, 0, 0] : Fin 3 → ℕ) a + S1x48x128.size a ≤ S8x48x128.size a) (q : Fin 48) (l : Fin 128) :
    (Rect.unit (s := S8x48x128) ![o, 0, 0] S1x48x128.size j).emb (ix3 0 q l) = ix3 ⟨o, ho⟩ q l := by
  funext b
  match b with
  | ⟨0, _⟩ => apply Fin.ext; show o + 1 * 0 = o; omega
  | ⟨1, _⟩ => apply Fin.ext; show 0 + 1 * q.val = q.val; omega
  | ⟨2, _⟩ => apply Fin.ext; show 0 + 1 * l.val = l.val; omega

theorem eq_slot (x : S1x48x128.Idx) : x = ix3 0 (x 1) (x 2) := by
  funext b
  match b with
  | ⟨0, _⟩ => apply Fin.ext; show (x 0).val = 0; have : (x 0).val < 1 := (x 0).isLt; omega
  | ⟨1, _⟩ => rfl
  | ⟨2, _⟩ => rfl

/-- The eight stores into the zero-point scratch, the last one first. -/
def zL (a : IVec S48x128 32) : List (View.Piece (Elt Ideal) S8x48x128 .i32) :=
  [⟨Rect.unit (s := S8x48x128) ![7, 0, 0] S1x48x128.size inb_S8x48x128_S1x48x128_7_0_0, zst 48#32 (k0_pay40 (F := Ideal) a)⟩,
    ⟨Rect.unit (s := S8x48x128) ![6, 0, 0] S1x48x128.size inb_S8x48x128_S1x48x128_6_0_0, zst 32#32 (k0_pay40 (F := Ideal) a)⟩,
    ⟨Rect.unit (s := S8x48x128) ![5, 0, 0] S1x48x128.size inb_S8x48x128_S1x48x128_5_0_0, zst 16#32 (k0_pay40 (F := Ideal) a)⟩,
    ⟨Rect.unit (s := S8x48x128) ![4, 0, 0] S1x48x128.size inb_S8x48x128_S1x48x128_4_0_0, zst 0#32 (k0_pay40 (F := Ideal) a)⟩,
    ⟨Rect.unit (s := S8x48x128) ![3, 0, 0] S1x48x128.size inb_S8x48x128_S1x48x128_3_0_0, zst 48#32 (k0_pay39 (F := Ideal) a)⟩,
    ⟨Rect.unit (s := S8x48x128) ![2, 0, 0] S1x48x128.size inb_S8x48x128_S1x48x128_2_0_0, zst 32#32 (k0_pay39 (F := Ideal) a)⟩,
    ⟨Rect.unit (s := S8x48x128) ![1, 0, 0] S1x48x128.size inb_S8x48x128_S1x48x128_1_0_0, zst 16#32 (k0_pay39 (F := Ideal) a)⟩,
    ⟨Rect.unit (s := S8x48x128) ![0, 0, 0] S1x48x128.size inb_S8x48x128_S1x48x128_0_0_0, zst 0#32 (k0_pay39 (F := Ideal) a)⟩]

/-- The eight stores into the scale scratch, the last one first. -/
def sL (arg6 : Memref sig .tc .vmem S48x1024 .bf16) (X : BufTy.Contents (Elt Ideal) arg6.view.ty) : List (View.Piece (Elt Ideal) S8x48x128 .f32) :=
  [⟨Rect.unit (s := S8x48x128) ![7, 0, 0] S1x48x128.size inb_S8x48x128_S1x48x128_7_0_0, k0_pay3 (F := Ideal) (View.readAt (Elt Ideal) arg6.view (Rect.unit (s := S48x1024) ![0, 896] S48x128.size inb_S48x1024_S48x128_0_896).toLoadRect X)⟩,
    ⟨Rect.unit (s := S8x48x128) ![6, 0, 0] S1x48x128.size inb_S8x48x128_S1x48x128_6_0_0, k0_pay3 (F := Ideal) (View.readAt (Elt Ideal) arg6.view (Rect.unit (s := S48x1024) ![0, 768] S48x128.size inb_S48x1024_S48x128_0_768).toLoadRect X)⟩,
    ⟨Rect.unit (s := S8x48x128) ![5, 0, 0] S1x48x128.size inb_S8x48x128_S1x48x128_5_0_0, k0_pay3 (F := Ideal) (View.readAt (Elt Ideal) arg6.view (Rect.unit (s := S48x1024) ![0, 640] S48x128.size inb_S48x1024_S48x128_0_640).toLoadRect X)⟩,
    ⟨Rect.unit (s := S8x48x128) ![4, 0, 0] S1x48x128.size inb_S8x48x128_S1x48x128_4_0_0, k0_pay3 (F := Ideal) (View.readAt (Elt Ideal) arg6.view (Rect.unit (s := S48x1024) ![0, 512] S48x128.size inb_S48x1024_S48x128_0_512).toLoadRect X)⟩,
    ⟨Rect.unit (s := S8x48x128) ![3, 0, 0] S1x48x128.size inb_S8x48x128_S1x48x128_3_0_0, k0_pay3 (F := Ideal) (View.readAt (Elt Ideal) arg6.view (Rect.unit (s := S48x1024) ![0, 384] S48x128.size inb_S48x1024_S48x128_0_384).toLoadRect X)⟩,
    ⟨Rect.unit (s := S8x48x128) ![2, 0, 0] S1x48x128.size inb_S8x48x128_S1x48x128_2_0_0, k0_pay3 (F := Ideal) (View.readAt (Elt Ideal) arg6.view (Rect.unit (s := S48x1024) ![0, 256] S48x128.size inb_S48x1024_S48x128_0_256).toLoadRect X)⟩,
    ⟨Rect.unit (s := S8x48x128) ![1, 0, 0] S1x48x128.size inb_S8x48x128_S1x48x128_1_0_0, k0_pay3 (F := Ideal) (View.readAt (Elt Ideal) arg6.view (Rect.unit (s := S48x1024) ![0, 128] S48x128.size inb_S48x1024_S48x128_0_128).toLoadRect X)⟩,
    ⟨Rect.unit (s := S8x48x128) ![0, 0, 0] S1x48x128.size inb_S8x48x128_S1x48x128_0_0_0, k0_pay3 (F := Ideal) (View.readAt (Elt Ideal) arg6.view (Rect.unit (s := S48x1024) ![0, 0] S48x128.size inb_S48x1024_S48x128_0_0).toLoadRect X)⟩]

theorem zslot_lo (c : Fin 4) (a : IVec S48x128 32) (j : ∀ b, (![c.val, 0, 0] : Fin 3 → ℕ) b + S1x48x128.size b ≤ S8x48x128.size b) (x : S1x48x128.Idx) :
    zst (BitVec.ofNat 32 (16 * c.val)) (k0_pay39 (F := Ideal) a) x = ZP a ((Rect.unit (s := S8x48x128) ![c.val, 0, 0] S1x48x128.size j).emb x) := by
  refine ((congrArg _ (eq_slot x)).trans ((zst_apply _ _ (x 1) (x 2)).trans (zeroW_lo c a (x 1) (x 2)))).trans ?_
  refine Eq.trans ?_ (congrArg (ZP a) ((slot_emb c.val (by omega) j (x 1) (x 2)).symm.trans (congrArg _ (eq_slot x).symm)))
  rfl

theorem zslot_hi (c : Fin 4) (a : IVec S48x128 32) (j : ∀ b, (![c.val + 4, 0, 0] : Fin 3 → ℕ) b + S1x48x128.size b ≤ S8x48x128.size b) (x : S1x48x128.Idx) :
    zst (BitVec.ofNat 32 (16 * c.val)) (k0_pay40 (F := Ideal) a) x = ZP a ((Rect.unit (s := S8x48x128) ![c.val + 4, 0, 0] S1x48x128.size j).emb x) := by
  refine ((congrArg _ (eq_slot x)).trans ((zst_apply _ _ (x 1) (x 2)).trans (zeroW_hi c a (x 1) (x 2)))).trans ?_
  refine Eq.trans ?_ (congrArg (ZP a) ((slot_emb (c.val + 4) (by omega) j (x 1) (x 2)).symm.trans (congrArg _ (eq_slot x).symm)))
  rfl

theorem sslot (o : ℕ) (ho : o < 8) (arg6 : Memref sig .tc .vmem S48x1024 .bf16) (X : BufTy.Contents (Elt Ideal) arg6.view.ty)
    (j6 : ∀ b, (![0, 128 * o] : Fin 2 → ℕ) b + S48x128.size b ≤ S48x1024.size b) (j : ∀ b, (![o, 0, 0] : Fin 3 → ℕ) b + S1x48x128.size b ≤ S8x48x128.size b) (x : S1x48x128.Idx) :
    k0_pay3 (F := Ideal) (View.readAt (Elt Ideal) arg6.view (Rect.unit (s := S48x1024) ![0, 128 * o] S48x128.size j6).toLoadRect X) x
      = SP (arg6.view.read (Elt Ideal) X) ((Rect.unit (s := S8x48x128) ![o, 0, 0] S1x48x128.size j).emb x) := by
  refine ((congrArg _ (eq_slot x)).trans (sst_apply _ (x 1) (x 2))).trans ?_
  refine Eq.trans ?_ (congrArg (SP _) ((slot_emb o ho j (x 1) (x 2)).symm.trans (congrArg _ (eq_slot x).symm)))
  rw [View.readAt_apply]
  unfold SP
  congr 1
  funext b
  match b with
  | ⟨0, _⟩ => apply Fin.ext; show 0 + 1 * (x 1).val = (x 1).val; omega
  | ⟨1, _⟩ => apply Fin.ext; show 128 * o + 1 * (x 2).val = 128 * o + (x 2).val; omega

set_option maxHeartbeats 1000000 in
/-- After the eight stores the zero-point scratch holds the unpacked zero points. -/
theorem zp_all (arg11 : Memref sig .tc .vmem S8x48x128 .i32) (G : BufTy.Contents (Elt Ideal) arg11.view.ty) (a : IVec S48x128 32) :
    arg11.view.read (Elt Ideal) (arg11.view.writes (Elt Ideal) G (zL a)) = ZP a := by
  funext y
  refine View.read_writes_apply_of_pieces (Val := Elt Ideal) (e := .i32) _ _ (ZP a) _ ?_ y ?_
  · intro p hp x
    unfold zL at hp
    simp only [List.mem_cons, List.not_mem_nil, or_false] at hp
    rcases hp with rfl | rfl | rfl | rfl | rfl | rfl | rfl | rfl
    · exact zslot_hi 3 a inb_S8x48x128_S1x48x128_7_0_0 x
    · exact zslot_hi 2 a inb_S8x48x128_S1x48x128_6_0_0 x
    · exact zslot_hi 1 a inb_S8x48x128_S1x48x128_5_0_0 x
    · exact zslot_hi 0 a inb_S8x48x128_S1x48x128_4_0_0 x
    · exact zslot_lo 3 a inb_S8x48x128_S1x48x128_3_0_0 x
    · exact zslot_lo 2 a inb_S8x48x128_S1x48x128_2_0_0 x
    · exact zslot_lo 1 a inb_S8x48x128_S1x48x128_1_0_0 x
    · exact zslot_lo 0 a inb_S8x48x128_S1x48x128_0_0_0 x
  · unfold zL
    have h0 : (y 0).val < 8 := (y 0).isLt
    have h1 : (y 1).val < 48 := (y 1).isLt
    have h2 : (y 2).val < 128 := (y 2).isLt
    have key : ∀ (o : ℕ) (j : ∀ a, (![o, 0, 0] : Fin 3 → ℕ) a + S1x48x128.size a ≤ S8x48x128.size a), (y 0).val = o → y ∈ (Rect.unit (s := S8x48x128) ![o, 0, 0] S1x48x128.size j).set := by
      intro o j h
      rw [Rect.mem_set_unit]
      intro a
      match a with
      | ⟨0, _⟩ => exact ⟨by show o ≤ (y 0).val; omega, by show (y 0).val < o + 1; omega⟩
      | ⟨1, _⟩ => exact ⟨Nat.zero_le _, by show (y 1).val < 0 + 48; omega⟩
      | ⟨2, _⟩ => exact ⟨Nat.zero_le _, by show (y 2).val < 0 + 128; omega⟩
    have hc : (y 0).val = 7 ∨ (y 0).val = 6 ∨ (y 0).val = 5 ∨ (y 0).val = 4 ∨ (y 0).val = 3 ∨ (y 0).val = 2 ∨ (y 0).val = 1 ∨ (y 0).val = 0 := by omega
    rcases hc with h | h | h | h | h | h | h | h
    · exact ⟨_, List.mem_cons_self, key 7 inb_S8x48x128_S1x48x128_7_0_0 h⟩
    · exact ⟨_, List.mem_cons_of_mem _ List.mem_cons_self, key 6 inb_S8x48x128_S1x48x128_6_0_0 h⟩
    · exact ⟨_, List.mem_cons_of_mem _ (List.mem_cons_of_mem _ List.mem_cons_self), key 5 inb_S8x48x128_S1x48x128_5_0_0 h⟩
    · exact ⟨_, List.mem_cons_of_mem _ (List.mem_cons_of_mem _ (List.mem_cons_of_mem _ List.mem_cons_self)), key 4 inb_S8x48x128_S1x48x128_4_0_0 h⟩
    · exact ⟨_, List.mem_cons_of_mem _ (List.mem_cons_of_mem _ (List.mem_cons_of_mem _ (List.mem_cons_of_mem _ List.mem_cons_self))), key 3 inb_S8x48x128_S1x48x128_3_0_0 h⟩
    · exact ⟨_, List.mem_cons_of_mem _ (List.mem_cons_of_mem _ (List.mem_cons_of_mem _ (List.mem_cons_of_mem _ (List.mem_cons_of_mem _ List.mem_cons_self)))), key 2 inb_S8x48x128_S1x48x128_2_0_0 h⟩
    · exact ⟨_, List.mem_cons_of_mem _ (List.mem_cons_of_mem _ (List.mem_cons_of_mem _ (List.mem_cons_of_mem _ (List.mem_cons_of_mem _ (List.mem_cons_of_mem _ List.mem_cons_self))))), key 1 inb_S8x48x128_S1x48x128_1_0_0 h⟩
    · exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), key 0 inb_S8x48x128_S1x48x128_0_0_0 h⟩

set_option maxHeartbeats 1000000 in
/-- After the eight stores the scale scratch holds the scales, regrouped by slabs of columns. -/
theorem sp_all (arg6 : Memref sig .tc .vmem S48x1024 .bf16) (X : BufTy.Contents (Elt Ideal) arg6.view.ty)
    (arg12 : Memref sig .tc .vmem S8x48x128 .f32) (G : BufTy.Contents (Elt Ideal) arg12.view.ty) :
    arg12.view.read (Elt Ideal) (arg12.view.writes (Elt Ideal) G (sL arg6 X)) = SP (arg6.view.read (Elt Ideal) X) := by
  funext y
  refine View.read_writes_apply_of_pieces (Val := Elt Ideal) (e := .f32) _ _ (SP (arg6.view.read (Elt Ideal) X)) _ ?_ y ?_
  · intro p hp x
    unfold sL at hp
    simp only [List.mem_cons, List.not_mem_nil, or_false] at hp
    rcases hp with rfl | rfl | rfl | rfl | rfl | rfl | rfl | rfl
    · exact sslot 7 (by omega) arg6 X inb_S48x1024_S48x128_0_896 inb_S8x48x128_S1x48x128_7_0_0 x
    · exact sslot 6 (by omega) arg6 X inb_S48x1024_S48x128_0_768 inb_S8x48x128_S1x48x128_6_0_0 x
    · exact sslot 5 (by omega) arg6 X inb_S48x1024_S48x128_0_640 inb_S8x48x128_S1x48x128_5_0_0 x
    · exact sslot 4 (by omega) arg6 X inb_S48x1024_S48x128_0_512 inb_S8x48x128_S1x48x128_4_0_0 x
    · exact sslot 3 (by omega) arg6 X inb_S48x1024_S48x128_0_384 inb_S8x48x128_S1x48x128_3_0_0 x
    · exact sslot 2 (by omega) arg6 X inb_S48x1024_S48x128_0_256 inb_S8x48x128_S1x48x128_2_0_0 x
    · exact sslot 1 (by omega) arg6 X inb_S48x1024_S48x128_0_128 inb_S8x48x128_S1x48x128_1_0_0 x
    · exact sslot 0 (by omega) arg6 X inb_S48x1024_S48x128_0_0 inb_S8x48x128_S1x48x128_0_0_0 x
  · unfold sL
    have h0 : (y 0).val < 8 := (y 0).isLt
    have h1 : (y 1).val < 48 := (y 1).isLt
    have h2 : (y 2).val < 128 := (y 2).isLt
    have key : ∀ (o : ℕ) (j : ∀ a, (![o, 0, 0] : Fin 3 → ℕ) a + S1x48x128.size a ≤ S8x48x128.size a), (y 0).val = o → y ∈ (Rect.unit (s := S8x48x128) ![o, 0, 0] S1x48x128.size j).set := by
      intro o j h
      rw [Rect.mem_set_unit]
      intro a
      match a with
      | ⟨0, _⟩ => exact ⟨by show o ≤ (y 0).val; omega, by show (y 0).val < o + 1; omega⟩
      | ⟨1, _⟩ => exact ⟨Nat.zero_le _, by show (y 1).val < 0 + 48; omega⟩
      | ⟨2, _⟩ => exact ⟨Nat.zero_le _, by show (y 2).val < 0 + 128; omega⟩
    have hc : (y 0).val = 7 ∨ (y 0).val = 6 ∨ (y 0).val = 5 ∨ (y 0).val = 4 ∨ (y 0).val = 3 ∨ (y 0).val = 2 ∨ (y 0).val = 1 ∨ (y 0).val = 0 := by omega
    rcases hc with h | h | h | h | h | h | h | h
    · exact ⟨_, List.mem_cons_self, key 7 inb_S8x48x128_S1x48x128_7_0_0 h⟩
    · exact ⟨_, List.mem_cons_of_mem _ List.mem_cons_self, key 6 inb_S8x48x128_S1x48x128_6_0_0 h⟩
    · exact ⟨_, List.mem_cons_of_mem _ (List.mem_cons_of_mem _ List.mem_cons_self), key 5 inb_S8x48x128_S1x48x128_5_0_0 h⟩
    · exact ⟨_, List.mem_cons_of_mem _ (List.mem_cons_of_mem _ (List.mem_cons_of_mem _ List.mem_cons_self)), key 4 inb_S8x48x128_S1x48x128_4_0_0 h⟩
    · exact ⟨_, List.mem_cons_of_mem _ (List.mem_cons_of_mem _ (List.mem_cons_of_mem _ (List.mem_cons_of_mem _ List.mem_cons_self))), key 3 inb_S8x48x128_S1x48x128_3_0_0 h⟩
    · exact ⟨_, List.mem_cons_of_mem _ (List.mem_cons_of_mem _ (List.mem_cons_of_mem _ (List.mem_cons_of_mem _ (List.mem_cons_of_mem _ List.mem_cons_self)))), key 2 inb_S8x48x128_S1x48x128_2_0_0 h⟩
    · exact ⟨_, List.mem_cons_of_mem _ (List.mem_cons_of_mem _ (List.mem_cons_of_mem _ (List.mem_cons_of_mem _ (List.mem_cons_of_mem _ (List.mem_cons_of_mem _ List.mem_cons_self))))), key 1 inb_S8x48x128_S1x48x128_1_0_0 h⟩
    · exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), key 0 inb_S8x48x128_S1x48x128_0_0_0 h⟩

theorem zp_read (arg7 : Memref sig .tc .vmem S48x128 .i32) (harg7 : arg7.IsWhole) (arg11 : Memref sig .tc .vmem S8x48x128 .i32)
    (G : BufTy.Contents (Elt Ideal) arg11.view.ty) (x5 : IVec S48x128 32) (L : List (View.Piece (Elt Ideal) S8x48x128 .i32))
    (h : L = zL (View.readAt (Elt Ideal) arg7.view (Rect.unit (s := S48x128) ![0, 0] S48x128.size inb_S48x128_S48x128_0_0).toLoadRect (harg7.unread x5))) :
    arg11.view.read (Elt Ideal) (arg11.view.writes (Elt Ideal) G L) = ZP x5 := by
  rw [h]
  refine (zp_all arg11 G _).trans (congrArg ZP ?_)
  funext x
  rw [View.readAt_apply, harg7.read_unread]
  congr 1
  funext b
  match b with
  | ⟨0, _⟩ => apply Fin.ext; show 0 + 1 * (x 0).val = (x 0).val; omega
  | ⟨1, _⟩ => apply Fin.ext; show 0 + 1 * (x 1).val = (x 1).val; omega

theorem sp_read (arg6 : Memref sig .tc .vmem S48x1024 .bf16) (harg6 : arg6.IsWhole) (arg12 : Memref sig .tc .vmem S8x48x128 .f32)
    (G : BufTy.Contents (Elt Ideal) arg12.view.ty) (x4 : Vec Ideal S48x1024 .bf16) (L : List (View.Piece (Elt Ideal) S8x48x128 .f32))
    (h : L = sL arg6 (harg6.unread x4)) :
    arg12.view.read (Elt Ideal) (arg12.view.writes (Elt Ideal) G L) = SP x4 := by
  rw [h]
  rw [sp_all, harg6.read_unread]

end Cert.KernelIdeal.Val

end
-- ==== Proof.RunA.lean ====
module

public import proofs.«01_k».proof.Proof.Gen.KernelIdeal.Frame
public import proofs.«01_k».proof.Proof.Gen.KernelIdeal.Loops
public import proofs.«01_k».proof.Proof.Gen.KernelIdeal.Points
public import Idealize.ShloMosaic.Lib.Claim
public import Idealize.ShloMosaic.Lib.BitcastPair
public import Idealize.ShloMosaic.Lib.KernelVsHost
public import Idealize.ShloMosaic.Lib.Pointwise
public import proofs.«01_k».proof.Proof.RunB
public import proofs.«01_k».proof.Proof.Prep

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Words

local notation "𝕄" => MT nD τ sig Unit (Elt Ideal) ℕ (UR sig nD τ) ℕ

set_option maxHeartbeats 1000000 in
/-- The body at a point of case A: the inputs kept, the scratches stepped, the output block at its values. -/
theorem run_A (c : Dev nD) (i : grid0.Coords) (arg2 : Memref sig .tc .vmem S512x6144 .bf16) (harg2 : arg2.IsWhole) (arg3 : Memref sig .tc .vmem S1x6144 .f32) (harg3 : arg3.IsWhole) (arg4 : Memref sig .tc .vmem S1x1024 .f32) (harg4 : arg4.IsWhole) (arg5 : Memref sig .tc .vmem S6144x128 .i32) (harg5 : arg5.IsWhole) (arg6 : Memref sig .tc .vmem S48x1024 .bf16) (harg6 : arg6.IsWhole) (arg7 : Memref sig .tc .vmem S48x128 .i32) (harg7 : arg7.IsWhole) (arg8 : Memref sig .tc .vmem S512x1024 .bf16) (harg8 : arg8.IsWhole) (arg9 : Memref sig .tc .vmem S1536x6144 .bf16) (harg9 : arg9.IsWhole) (arg10 : Memref sig .tc .vmem S6144x1024 .bf16) (harg10 : arg10.IsWhole) (arg11 : Memref sig .tc .vmem S8x48x128 .i32) (harg11 : arg11.IsWhole) (arg12 : Memref sig .tc .vmem S8x48x128 .f32) (harg12 : arg12.IsWhole) (hc0 : cond0_0 i) (hc1 : cond0_1 i)
    (x0 : Vec Ideal S512x6144 .bf16) (x1 : Vec Ideal S1x6144 .f32) (x2 : Vec Ideal S1x1024 .f32) (x3 : Vec Ideal S6144x128 .i32) (x4 : Vec Ideal S48x1024 .bf16) (x5 : Vec Ideal S48x128 .i32) (d9 : Vec Ideal S1536x6144 .bf16) (d10 : Vec Ideal S6144x1024 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare d9 ∗ owns (c : Thread nD τ) arg10 fullShare d10 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ X W, ⌜Step i x0 x1 x3 x4 x5 d9 X d10 W⌝ ∗ owns (c : Thread nD τ) arg8 fullShare (OUTV (i 1).val (coord1_lt i) X W x2) ∗ owns (c : Thread nD τ) arg9 fullShare X ∗ owns (c : Thread nD τ) arg10 fullShare W) ∗ (∃ d, owns (c : Thread nD τ) arg11 fullShare d) ∗ (∃ d, owns (c : Thread nD τ) arg12 fullShare d)) -∗ K ⟨⟩))
          ⊢ wp frame (wpE (defs₀ (F := Ideal)) Variants.none c none) E (cc0_rmsnorm_awq_linear i arg2 harg2 arg3 harg3 arg4 harg4 arg5 harg5 arg6 harg6 arg7 harg7 arg8 harg8 arg9 harg9 arg10 harg10 arg11 harg11 arg12 harg12) K := by
    intro E K
    simp only [cc0_rmsnorm_awq_linear_eq_skeleton]; unfold cc0_rmsnorm_awq_linear_skel
    simp only [k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6 HS0 HS1]
    · iexists _, _
      isplitr
      swap
      · isplitl [H6]
        · iexists _; isplitr; swap; · iexact H6
          ipureintro; exact (out_read i arg4 arg8 arg9 arg10 _ _ _ _ _ _ _ _).trans (congrArg _ (harg4.read_unread _))
        isplitl [HS0]
        · iexists _; isplitr; swap; · iexact HS0
          ipureintro; rfl
        iexists _; isplitr; swap; · iexact HS1
        ipureintro; rfl
      ipureintro
      exact ⟨fun _ y h0 h1 => (norm_in _ _ _ i arg2 harg2 arg3 harg3 arg4 harg4 arg5 harg5 arg6 harg6 arg7 harg7 arg8 harg8 arg9 harg9 arg10 harg10 arg11 harg11 arg12 harg12 hc0 _ _ _ y h0 h1).trans (by rw [harg2.read_unread, harg3.read_unread]), fun _ y h => (norm_out _ _ _ i arg2 harg2 arg3 harg3 arg4 harg4 arg5 harg5 arg6 harg6 arg7 harg7 arg8 harg8 arg9 harg9 arg10 harg10 arg11 harg11 arg12 harg12 hc0 _ _ _ y h).trans (congrFun hfs0 y), fun h => absurd hc0 h, fun _ => (deq _ _ _ i arg2 harg2 arg3 harg3 arg4 harg4 arg5 harg5 arg6 harg6 arg7 harg7 arg8 harg8 arg9 harg9 arg10 harg10 arg11 harg11 arg12 harg12 hc1 _ _ _ _ x4 x5 (zp_read arg7 harg7 arg11 _ x5 _ rfl) (sp_read arg6 harg6 arg12 _ x4 _ rfl)).trans (by rw [harg5.read_unread]), fun h => absurd hc1 h⟩
    isplitl [HS2]
    · iexists _, _; isplitr; swap; · iexact HS2
      ipureintro; rfl
    iexists _, _; isplitr; swap; · iexact HS3
    ipureintro; rfl

end Cert.KernelIdeal.Val

end
-- ==== Proof.RunC.lean ====
module

public import proofs.«01_k».proof.Proof.Gen.KernelIdeal.Frame
public import proofs.«01_k».proof.Proof.Gen.KernelIdeal.Loops
public import proofs.«01_k».proof.Proof.Gen.KernelIdeal.Points
public import Idealize.ShloMosaic.Lib.Claim
public import Idealize.ShloMosaic.Lib.BitcastPair
public import Idealize.ShloMosaic.Lib.KernelVsHost
public import Idealize.ShloMosaic.Lib.Pointwise
public import proofs.«01_k».proof.Proof.RunB
public import proofs.«01_k».proof.Proof.Prep

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Words

local notation "𝕄" => MT nD τ sig Unit (Elt Ideal) ℕ (UR sig nD τ) ℕ

set_option maxHeartbeats 1000000 in
/-- The body at a point of case C: the inputs kept, the scratches stepped, the output block at its values. -/
theorem run_C (c : Dev nD) (i : grid0.Coords) (arg2 : Memref sig .tc .vmem S512x6144 .bf16) (harg2 : arg2.IsWhole) (arg3 : Memref sig .tc .vmem S1x6144 .f32) (harg3 : arg3.IsWhole) (arg4 : Memref sig .tc .vmem S1x1024 .f32) (harg4 : arg4.IsWhole) (arg5 : Memref sig .tc .vmem S6144x128 .i32) (harg5 : arg5.IsWhole) (arg6 : Memref sig .tc .vmem S48x1024 .bf16) (harg6 : arg6.IsWhole) (arg7 : Memref sig .tc .vmem S48x128 .i32) (harg7 : arg7.IsWhole) (arg8 : Memref sig .tc .vmem S512x1024 .bf16) (harg8 : arg8.IsWhole) (arg9 : Memref sig .tc .vmem S1536x6144 .bf16) (harg9 : arg9.IsWhole) (arg10 : Memref sig .tc .vmem S6144x1024 .bf16) (harg10 : arg10.IsWhole) (arg11 : Memref sig .tc .vmem S8x48x128 .i32) (harg11 : arg11.IsWhole) (arg12 : Memref sig .tc .vmem S8x48x128 .f32) (harg12 : arg12.IsWhole) (hc0 : ¬ cond0_0 i) (hc1 : cond0_1 i)
    (x0 : Vec Ideal S512x6144 .bf16) (x1 : Vec Ideal S1x6144 .f32) (x2 : Vec Ideal S1x1024 .f32) (x3 : Vec Ideal S6144x128 .i32) (x4 : Vec Ideal S48x1024 .bf16) (x5 : Vec Ideal S48x128 .i32) (d9 : Vec Ideal S1536x6144 .bf16) (d10 : Vec Ideal S6144x1024 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare d9 ∗ owns (c : Thread nD τ) arg10 fullShare d10 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ X W, ⌜Step i x0 x1 x3 x4 x5 d9 X d10 W⌝ ∗ owns (c : Thread nD τ) arg8 fullShare (OUTV (i 1).val (coord1_lt i) X W x2) ∗ owns (c : Thread nD τ) arg9 fullShare X ∗ owns (c : Thread nD τ) arg10 fullShare W) ∗ (∃ d, owns (c : Thread nD τ) arg11 fullShare d) ∗ (∃ d, owns (c : Thread nD τ) arg12 fullShare d)) -∗ K ⟨⟩))
          ⊢ wp frame (wpE (defs₀ (F := Ideal)) Variants.none c none) E (cc0_rmsnorm_awq_linear i arg2 harg2 arg3 harg3 arg4 harg4 arg5 harg5 arg6 harg6 arg7 harg7 arg8 harg8 arg9 harg9 arg10 harg10 arg11 harg11 arg12 harg12) K := by
    intro E K
    simp only [cc0_rmsnorm_awq_linear_eq_skeleton]; unfold cc0_rmsnorm_awq_linear_skel
    simp only [k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6 HS0 HS1]
    · iexists _, _
      isplitr
      swap
      · isplitl [H6]
        · iexists _; isplitr; swap; · iexact H6
          ipureintro; exact (out_read i arg4 arg8 arg9 arg10 _ _ _ _ _ _ _ _).trans (congrArg _ (harg4.read_unread _))
        isplitl [HS0]
        · iexists _; isplitr; swap; · iexact HS0
          ipureintro; rfl
        iexists _; isplitr; swap; · iexact HS1
        ipureintro; rfl
      ipureintro
      exact ⟨fun h => absurd h hc0, fun h => absurd h hc0, fun _ => hfs0, fun _ => (deq _ _ _ i arg2 harg2 arg3 harg3 arg4 harg4 arg5 harg5 arg6 harg6 arg7 harg7 arg8 harg8 arg9 harg9 arg10 harg10 arg11 harg11 arg12 harg12 hc1 _ _ _ _ x4 x5 (zp_read arg7 harg7 arg11 _ x5 _ rfl) (sp_read arg6 harg6 arg12 _ x4 _ rfl)).trans (by rw [harg5.read_unread]), fun h => absurd hc1 h⟩
    isplitl [HS2]
    · iexists _, _; isplitr; swap; · iexact HS2
      ipureintro; rfl
    iexists _, _; isplitr; swap; · iexact HS3
    ipureintro; rfl

end Cert.KernelIdeal.Val

end
-- ==== Proof.Launch.lean ====
module

public import proofs.«01_k».proof.Proof.Gen.KernelIdeal.Frame
public import proofs.«01_k».proof.Proof.Gen.KernelIdeal.Loops
public import proofs.«01_k».proof.Proof.Gen.KernelIdeal.Points
public import Idealize.ShloMosaic.Lib.Claim
public import Idealize.ShloMosaic.Lib.BitcastPair
public import Idealize.ShloMosaic.Lib.KernelVsHost
public import Idealize.ShloMosaic.Lib.Pointwise
public import proofs.«01_k».proof.Proof.Full
public import proofs.«01_k».proof.Proof.RunA
public import proofs.«01_k».proof.Proof.RunB
public import proofs.«01_k».proof.Proof.RunC
public import proofs.«01_k».proof.Proof.RunD

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Words

local notation "𝕄" => MT nD τ sig Unit (Elt Ideal) ℕ (UR sig nD τ) ℕ

variable (m : (ℓ : Loc nD τ sig) → Buf (Elt Ideal) ℓ) (ρ : Dev nD → PrngReg)

/-! ## The pipeline's proof data -/

/-- Before point `n`: the two carried scratches at contents the invariant describes, the two others at anything. -/
def PHI (c : Dev nD) (n : ℕ) : sProp 𝕄 :=
  iprop(∃ dX dW, ⌜Inv m c n dX dW⌝ ∗ owns (c : Thread nD τ) scM0_0 fullShare dX ∗ owns (c : Thread nD τ) scM0_1 fullShare dW
    ∗ (∃ d, owns (c : Thread nD τ) scM0_2 fullShare d) ∗ (∃ d, owns (c : Thread nD τ) scM0_3 fullShare d) ∗ (∃ r, prngReg c r))

/-- The proof data of the one pipeline on core `c`: the arrays as the region finds them; after the body at point `t` each
    input's buffer at its block and the output's at its block of the result; the invariant `PHI`; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk m c t
  Φ t := PHI m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outBlk m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 3200000 in
/-- The body at any point: its case's run, then the invariant one point on. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6]
  rw [show (dats m 0 c).Φ t.castSucc = PHI m c t.val from rfl, show (dats m 0 c).Φ t.succ = PHI m c (t.val + 1) from rfl]
  unfold PHI
  by_cases h0 : t.val < 3
  · by_cases h1 : t.val % 3 = 0
    · iintro ⟨⟨%dX, %dW, %hi, HS0, HS1, HS2, HS3, Hg⟩, Ho, ⟨%d0, H0⟩, ⟨%d1, H1⟩, ⟨%d2, H2⟩, ⟨%d3, H3⟩, ⟨%d4, H4⟩, ⟨%d5, H5⟩, ⟨%d6, H6⟩⟩
      iapply ((run_A c (grid0.coords t) _ _ _ _ _ _ _ _ _ _ _ _ _ _ _ _ _ _ _ _ _ _ ((hcond0_0 t).mpr h0) ((hcond0_1 t).mpr h1) (iblk m c 0 t) (iblk m c 1 t) (iblk m c 2 t) (iblk m c 3 t) (iblk m c 4 t) (iblk m c 5 t) dX dW) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      isplitl [HS3]; · iexact HS3
      iintro ⟨H0, H1, H2, H3, H4, H5, ⟨%X, %W, %hs, H6, HS0, HS1⟩, HS2, HS3⟩
      have hk := step_ok m c t hi hs
      isplitl [HS0 HS1 HS2 HS3 Hg]
      · iexists X, W
        isplitr
        · ipureintro; exact hk.1
        isplitl [HS0]; · iexact HS0
        isplitl [HS1]; · iexact HS1
        isplitl [HS2]; · iexact HS2
        isplitl [HS3]; · iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      rw [← hk.2]
      iexact H6
    · iintro ⟨⟨%dX, %dW, %hi, HS0, HS1, HS2, HS3, Hg⟩, Ho, ⟨%d0, H0⟩, ⟨%d1, H1⟩, ⟨%d2, H2⟩, ⟨%d3, H3⟩, ⟨%d4, H4⟩, ⟨%d5, H5⟩, ⟨%d6, H6⟩⟩
      iapply ((run_B c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) dX dW) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      isplitl [HS3]; · iexact HS3
      iintro ⟨H0, H1, H2, H3, H4, H5, ⟨%X, %W, %hs, H6, HS0, HS1⟩, HS2, HS3⟩
      have hk := step_ok m c t hi hs
      isplitl [HS0 HS1 HS2 HS3 Hg]
      · iexists X, W
        isplitr
        · ipureintro; exact hk.1
        isplitl [HS0]; · iexact HS0
        isplitl [HS1]; · iexact HS1
        isplitl [HS2]; · iexact HS2
        isplitl [HS3]; · iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      rw [← hk.2]
      iexact H6
  · by_cases h1 : t.val % 3 = 0
    · iintro ⟨⟨%dX, %dW, %hi, HS0, HS1, HS2, HS3, Hg⟩, Ho, ⟨%d0, H0⟩, ⟨%d1, H1⟩, ⟨%d2, H2⟩, ⟨%d3, H3⟩, ⟨%d4, H4⟩, ⟨%d5, H5⟩, ⟨%d6, H6⟩⟩
      iapply ((run_C c (grid0.coords t) _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) dX dW) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      isplitl [HS3]; · iexact HS3
      iintro ⟨H0, H1, H2, H3, H4, H5, ⟨%X, %W, %hs, H6, HS0, HS1⟩, HS2, HS3⟩
      have hk := step_ok m c t hi hs
      isplitl [HS0 HS1 HS2 HS3 Hg]
      · iexists X, W
        isplitr
        · ipureintro; exact hk.1
        isplitl [HS0]; · iexact HS0
        isplitl [HS1]; · iexact HS1
        isplitl [HS2]; · iexact HS2
        isplitl [HS3]; · iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      rw [← hk.2]
      iexact H6
    · iintro ⟨⟨%dX, %dW, %hi, HS0, HS1, HS2, HS3, Hg⟩, Ho, ⟨%d0, H0⟩, ⟨%d1, H1⟩, ⟨%d2, H2⟩, ⟨%d3, H3⟩, ⟨%d4, H4⟩, ⟨%d5, H5⟩, ⟨%d6, H6⟩⟩
      iapply ((run_D c (grid0.coords t) _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) dX dW) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      isplitl [HS3]; · iexact HS3
      iintro ⟨H0, H1, H2, H3, H4, H5, ⟨%X, %W, %hs, H6, HS0, HS1⟩, HS2, HS3⟩
      have hk := step_ok m c t hi hs
      isplitl [HS0 HS1 HS2 HS3 Hg]
      · iexists X, W
        isplitr
        · ipureintro; exact hk.1
        isplitl [HS0]; · iexact HS0
        isplitl [HS1]; · iexact HS1
        isplitl [HS2]; · iexact HS2
        isplitl [HS3]; · iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      rw [← hk.2]
      iexact H6

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run -/

theorem phi_in (c : Dev nD) : Pipeline.ΦA spec0 c ⊢ (dats m 0 c).Φ 0 := by
  rw [PhiA0_eq, show (dats m 0 c).Φ 0 = PHI m c 0 from rfl]
  unfold PHI
  iintro ⟨⟨⟨%dX, HS0⟩, ⟨%dW, HS1⟩, HS2, HS3⟩, Hg⟩
  iexists dX, dW
  isplitr
  · ipureintro; exact ⟨fun y h => absurd h (by omega), fun h => absurd rfl h⟩
  isplitl [HS0]; · iexact HS0
  isplitl [HS1]; · iexact HS1
  isplitl [HS2]; · iexact HS2
  isplitl [HS3]; · iexact HS3
  iexact Hg

theorem phi_out (c : Dev nD) : (dats m 0 c).Φ (Fin.last cfg0.N) ⊢ Pipeline.ΦA spec0 c := by
  rw [PhiA0_eq, show (dats m 0 c).Φ (Fin.last cfg0.N) = PHI m c (Fin.last cfg0.N).val from rfl]
  unfold PHI
  iintro ⟨%dX, %dW, -, HS0, HS1, HS2, HS3, Hg⟩
  isplitl [HS0 HS1 HS2 HS3]
  · isplitl [HS0]; · iexists _; iexact HS0
    isplitl [HS1]; · iexists _; iexact HS1
    isplitl [HS2]; · iexact HS2
    iexact HS3
  iexact Hg

set_option backward.isDefEq.respectTransparency.types false in
/-- The launch: the pipeline's arrays at what the proof data says, and every counter at zero at every final state. -/
theorem run_main_quiescent : θ_run defs (onTc (τ := τ) (main (F := Ideal))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := phi_in m) (hout := phi_out m)

theorem run_main : θ_run defs (onTc (τ := τ) (main (F := Ideal))) (s₀ m ρ) (Pipeline.FramePost cfgs (dats m) 0 (V m)) :=
  (θ_run defs _ _).mono (fun _ h => h.1) (run_main_quiescent m ρ)

/-- The arguments end unchanged and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

/-! ## The result array -/

theorem mem_out (t : Fin cfg0.N) (i : S1536x20480.Idx) (h0 : 512 * (t.val % 3) ≤ (i 0).val ∧ (i 0).val < 512 * (t.val % 3) + 512)
    (h1 : 1024 * (t.val / 3) ≤ (i 1).val ∧ (i 1).val < 1024 * (t.val / 3) + 1024) : i ∈ ((cfg0.win 6).blk t).view.set := by
  show i ∈ ((View.whole main_v3).slice (win0_6.rect t)).set
  rw [View.set_slice_whole, Rect.mem_set_unit]
  have e := wi6 t
  intro a
  match a with
  | ⟨0, _⟩ => show win0_6.index t 0 * 512 ≤ (i 0 : Nat) ∧ (i 0 : Nat) < win0_6.index t 0 * 512 + 512
              rw [e.1]; omega
  | ⟨1, _⟩ => show win0_6.index t 1 * 1024 ≤ (i 1 : Nat) ∧ (i 1 : Nat) < win0_6.index t 1 * 1024 + 1024
              rw [e.2]; omega

/-- The blocks of the result cover it. -/
theorem cover (i : S1536x20480.Idx) : ∃ t : Fin cfg0.N, (cfg0.win 6).flush t = true ∧ i ∈ ((cfg0.win 6).blk t).view.set := by
  have h0 : (i 0).val < 1536 := (i 0).isLt
  have h1 : (i 1).val < 20480 := (i 1).isLt
  have hN : cfg0.N = 60 := N_0
  refine ⟨⟨3 * ((i 1).val / 1024) + (i 0).val / 512, by omega⟩, flush0_6 _, mem_out _ i ?_ ?_⟩
  · dsimp only; omega
  · dsimp only; omega

/-- What a point writes back is its block of the result. -/
theorem flushed_eq (c : Dev nD) (t : Fin cfg0.N) : (dats m 0 c).flushed 6 t = (win0_6.blk t).view.read (Elt Ideal) (OUT m c) := by
  show (cfg0.win 6).cut (grid0.coords t) ((dats m 0 c).after 6 t) = _
  rw [after0_6]
  funext y
  show outBlk m c t y = OUT m c ((win0_6.rect t).emb y)
  unfold outBlk
  congr 1
  have e := wi6 t
  have ht := lt60 t
  have hy : (y 1).val < 1024 := (y 1).isLt
  funext b
  match b with
  | ⟨0, _⟩ =>
    apply Fin.ext
    refine Eq.trans ?_ (Pipeline.Window.rect_emb_val win0_6 t y 0).symm
    rw [e.1]
    show 512 * (t.val % 3) + (y 0).val = _ * 512 + (y 0).val
    omega
  | ⟨1, _⟩ =>
    apply Fin.ext
    refine Eq.trans ?_ (Pipeline.Window.rect_emb_val win0_6 t y 1).symm
    rw [e.2]
    show (1024 * (t.val / 3) + (y 1).val) % 20480 = _ * 1024 + (y 1).val
    omega

theorem final_out (c : Dev nD) : (dats m 0 c).arrAt 6 cfg0.N = OUT m c :=
  (dats m 0 c).arrAt_eq_of_cover 6 (OUT m c) (fun t _ => flushed_eq m c t) cover

/-- The run: the result array at the kernel's function of its arrays, the arguments unchanged. -/
theorem run : θ_run defs (onTc (τ := τ) (main (F := Ideal))) ⟨m, fun _ => 0, ρ⟩ (fun r => ∀ c : Dev nD,
      r.2.mem ((c.tc : Thread nD τ).loc main_v3) = OUT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).1 6).trans (final_out m c), h.2 c⟩)
    (θ_run_and (run_main m ρ) (frame_of m ρ (dats m) (A_eq m) (run_main m ρ)))

end Cert.KernelIdeal.Val

end
-- ==== Proof.Ref.lean ====
module

public import proofs.«01_k».proof.Proof.Gen.ReferenceIdeal.Run
public import proofs.«01_k».proof.Proof.Gen.ReferenceIdeal.Read
public import Idealize.ShloMosaic.Lib.IdealHost
public import Idealize.ShloMosaic.Lib.KernelVsHost
public import Idealize.ShloMosaic.Lib.Pointwise
public import proofs.«01_k».proof.Proof.Word

@[expose] public section

set_option maxRecDepth 16384

noncomputable section

namespace Cert.ReferenceIdeal.Val

open Idealize.ShloMosaic Cert.ReferenceIdeal Cert.ReferenceIdeal.Read Cert.Words

/-! # What the reference computes, elementwise -/

variable (x0 : (⟨S12x128x6144, .bf16⟩ : BufTy).Contents (Elt Ideal)) (x1 : (⟨S6144, .f32⟩ : BufTy).Contents (Elt Ideal))
  (x2 : (⟨S20480, .f32⟩ : BufTy).Contents (Elt Ideal)) (x3 : (⟨S6144x2560, .i32⟩ : BufTy).Contents (Elt Ideal))
  (x4 : (⟨S48x20480, .bf16⟩ : BufTy).Contents (Elt Ideal)) (x5 : (⟨S48x2560, .i32⟩ : BufTy).Contents (Elt Ideal))

/-- The arithmetic shift of a word by `4 f`, masked to four bits, is field `f`. -/
theorem shr_nib (w : BitVec 32) (f : ℕ) (hf : f < 8) : IntOp.andi (IntOp.shrsi .host w (BitVec.ofNat 32 (4 * f))) 15#32 = nib w f := by
  unfold IntOp.andi IntOp.shrsi
  have e : (BitVec.ofNat 32 (4 * f)).toNat = 4 * f := by rw [BitVec.toNat_ofNat]; exact Nat.mod_eq_of_lt (by omega)
  rw [if_pos (by omega)]
  unfold BitVec.sshiftRight'
  rw [e]
  unfold nib
  apply BitVec.eq_of_getLsbD_eq
  intro i hi
  interval_cases f <;> interval_cases i <;> simp [BitVec.getElem_sshiftRight]

/-- The reference's normalized activations. -/
theorem norm_apply (b : Fin 12) (s : Fin 128) (k : Fin 6144) :
    val_main_v14 (F := Ideal) x0 x1 (ix3 b s k)
      = (x0 (ix3 b s k) : EReal) * Ideal.rsqrt (Ideal.div (∑ j : Fin 6144, (x0 (ix3 b s j) : EReal) * (x0 (ix3 b s j) : EReal)) (Ideal.ofBits FTy.f32 1170210816#32) + Ideal.ofBits FTy.f32 897988541#32) * x1 (ix1 k) := by
  rw [val_main_v14_apply, val_main_v13_apply, val_main_v10_apply, val_main_v0_apply, val_main_v9_apply, val_main_v8_apply,
    val_main_v7_apply, val_main_v5_apply, val_main_v3_apply, val_main_v2_apply, val_main_v4_apply, val_main_v6_apply,
    val_main_v12_apply, val_main_v11_apply, val_main_cst_apply, val_main_cst_0_apply, val_main_cst_1_apply]
  have eg : idx_main_v11 (idx_main_v12 (ix3 b s k)) = ix1 k := by
    funext a; match a with | ⟨0, _⟩ => rfl
  have es : ∀ j, idx_main_v2 (idx_main_v3 (idx_main_v9 (ix3 b s k))) j = ix3 b s j := by
    intro j; funext a; match a with | ⟨0, _⟩ => rfl | ⟨1, _⟩ => rfl | ⟨2, _⟩ => rfl
  rw [eg, show (FloatOps.ofBits (F := Ideal) .f32 0x00000000#32) = (0 : EReal) from Ideal.ofBits_zero_f32, zero_add]
  rw [Finset.sum_congr rfl (fun j _ => by rw [es j, val_main_v1_apply, val_main_v0_apply])]
  rfl

/-- The reference's weight at row `k` and word `p` of field `f`, kept at column `8 p + o`. -/
def wRef (k : Fin 6144) (p : Fin 2560) (f : ℕ) (o : ℕ) (ho : o < 8) : EReal :=
  ((((nib (x3 (ix2 k p)) f).toInt : ℝ) : EReal) - (((nib (x5 (ix2 ⟨k.val / 128, by omega⟩ p)) f).toInt : ℝ) : EReal))
    * x4 (ix2 ⟨k.val / 128, by omega⟩ ⟨o + 8 * p.val, by omega⟩)

theorem slice_0 (a : Fin 48) (p : Fin 2560) : val_main_v23 (F := Ideal) x4 (ix2 a p) = x4 (ix2 a ⟨0 + 8 * p.val, by omega⟩) := by
  unfold val_main_v23
  rw [Host.slice_apply]
  congr 1
  funext q
  match q with
  | ⟨0, _⟩ => apply Fin.ext; show 0 + 1 * a.val = a.val; omega
  | ⟨1, _⟩ => apply Fin.ext; show 0 + 8 * p.val = 0 + 8 * p.val; rfl

theorem weight_0 (k : Fin 6144) (p : Fin 2560) : val_main_v33 (F := Ideal) x3 x4 x5 (ix2 k p) = wRef x3 x4 x5 k p 0 0 (by omega) := by
  have hk := k.isLt
  have hp := p.isLt
  have ew : idx_main_v25 (idx_main_v33 (ix2 k p)) = ix2 k p := by
    funext q
    match q with
    | ⟨0, _⟩ => apply Fin.ext; show (((k.val * 2560 + p.val) / 327680 * 128 + (k.val * 2560 + p.val) / 2560 % 128) * 2560 + (k.val * 2560 + p.val) % 2560) / 2560 = k.val; omega
    | ⟨1, _⟩ => apply Fin.ext; show (((k.val * 2560 + p.val) / 327680 * 128 + (k.val * 2560 + p.val) / 2560 % 128) * 2560 + (k.val * 2560 + p.val) % 2560) % 2560 = p.val; omega
  have ez : idx_main_v27 (idx_main_v28 (idx_main_v33 (ix2 k p))) = ix2 ⟨k.val / 128, by omega⟩ p := by
    funext q
    match q with
    | ⟨0, _⟩ => apply Fin.ext; show (k.val * 2560 + p.val) / 327680 = k.val / 128; omega
    | ⟨1, _⟩ => apply Fin.ext; show (k.val * 2560 + p.val) % 2560 = p.val; omega
  have es : idx_main_v30 (idx_main_v31 (idx_main_v33 (ix2 k p))) = ix2 ⟨k.val / 128, by omega⟩ p := ez
  rw [val_main_v33_apply, val_main_v32_apply, val_main_v29_apply, val_main_v25_apply, val_main_v24_apply, val_main_v18_apply, val_main_v16_apply, val_main_v15_apply, val_main_v17_apply,
    val_main_v28_apply, val_main_v27_apply, val_main_v26_apply, val_main_v22_apply, val_main_v20_apply, val_main_v19_apply, val_main_v21_apply, val_main_v31_apply, val_main_v30_apply,
    val_main_c_apply, val_main_c_2_apply, val_main_c_3_apply, val_main_c_4_apply, ew, ez, es, slice_0]
  rw [show (0#32) = BitVec.ofNat 32 (4 * 0) from rfl, shr_nib _ 0 (by omega), shr_nib _ 0 (by omega)]
  rfl

/-- The reference's product at field `f`. -/
theorem dot_0 (b : Fin 12) (s : Fin 128) (p : Fin 2560) : val_main_v34 (F := Ideal) x0 x1 x3 x4 x5 (ix3 b s p)
    = ∑ k : Fin 6144, val_main_v14 (F := Ideal) x0 x1 (ix3 b s k) * wRef x3 x4 x5 k p 0 0 (by omega) := by
  rw [val_main_v34_apply]
  refine Finset.sum_congr rfl fun k _ => ?_
  have el : lidx_main_v34 (ix3 b s p) k = ix3 b s k := by
    funext a; match a with | ⟨0, _⟩ => rfl | ⟨1, _⟩ => rfl | ⟨2, _⟩ => rfl
  have er : ridx_main_v34 (ix3 b s p) k = ix2 k p := by
    funext a; match a with | ⟨0, _⟩ => rfl | ⟨1, _⟩ => rfl
  rw [el, er, weight_0]

theorem slice_1 (a : Fin 48) (p : Fin 2560) : val_main_v43 (F := Ideal) x4 (ix2 a p) = x4 (ix2 a ⟨2 + 8 * p.val, by omega⟩) := by
  unfold val_main_v43
  rw [Host.slice_apply]
  congr 1
  funext q
  match q with
  | ⟨0, _⟩ => apply Fin.ext; show 0 + 1 * a.val = a.val; omega
  | ⟨1, _⟩ => apply Fin.ext; show 2 + 8 * p.val = 2 + 8 * p.val; rfl

theorem weight_1 (k : Fin 6144) (p : Fin 2560) : val_main_v53 (F := Ideal) x3 x4 x5 (ix2 k p) = wRef x3 x4 x5 k p 1 2 (by omega) := by
  have hk := k.isLt
  have hp := p.isLt
  have ew : idx_main_v45 (idx_main_v53 (ix2 k p)) = ix2 k p := by
    funext q
    match q with
    | ⟨0, _⟩ => apply Fin.ext; show (((k.val * 2560 + p.val) / 327680 * 128 + (k.val * 2560 + p.val) / 2560 % 128) * 2560 + (k.val * 2560 + p.val) % 2560) / 2560 = k.val; omega
    | ⟨1, _⟩ => apply Fin.ext; show (((k.val * 2560 + p.val) / 327680 * 128 + (k.val * 2560 + p.val) / 2560 % 128) * 2560 + (k.val * 2560 + p.val) % 2560) % 2560 = p.val; omega
  have ez : idx_main_v47 (idx_main_v48 (idx_main_v53 (ix2 k p))) = ix2 ⟨k.val / 128, by omega⟩ p := by
    funext q
    match q with
    | ⟨0, _⟩ => apply Fin.ext; show (k.val * 2560 + p.val) / 327680 = k.val / 128; omega
    | ⟨1, _⟩ => apply Fin.ext; show (k.val * 2560 + p.val) % 2560 = p.val; omega
  have es : idx_main_v50 (idx_main_v51 (idx_main_v53 (ix2 k p))) = ix2 ⟨k.val / 128, by omega⟩ p := ez
  rw [val_main_v53_apply, val_main_v52_apply, val_main_v49_apply, val_main_v45_apply, val_main_v44_apply, val_main_v38_apply, val_main_v36_apply, val_main_v35_apply, val_main_v37_apply,
    val_main_v48_apply, val_main_v47_apply, val_main_v46_apply, val_main_v42_apply, val_main_v40_apply, val_main_v39_apply, val_main_v41_apply, val_main_v51_apply, val_main_v50_apply,
    val_main_c_5_apply, val_main_c_6_apply, val_main_c_7_apply, val_main_c_8_apply, ew, ez, es, slice_1]
  rw [show (4#32) = BitVec.ofNat 32 (4 * 1) from rfl, shr_nib _ 1 (by omega), shr_nib _ 1 (by omega)]
  rfl

/-- The reference's product at field `f`. -/
theorem dot_1 (b : Fin 12) (s : Fin 128) (p : Fin 2560) : val_main_v54 (F := Ideal) x0 x1 x3 x4 x5 (ix3 b s p)
    = ∑ k : Fin 6144, val_main_v14 (F := Ideal) x0 x1 (ix3 b s k) * wRef x3 x4 x5 k p 1 2 (by omega) := by
  rw [val_main_v54_apply]
  refine Finset.sum_congr rfl fun k _ => ?_
  have el : lidx_main_v54 (ix3 b s p) k = ix3 b s k := by
    funext a; match a with | ⟨0, _⟩ => rfl | ⟨1, _⟩ => rfl | ⟨2, _⟩ => rfl
  have er : ridx_main_v54 (ix3 b s p) k = ix2 k p := by
    funext a; match a with | ⟨0, _⟩ => rfl | ⟨1, _⟩ => rfl
  rw [el, er, weight_1]

theorem slice_2 (a : Fin 48) (p : Fin 2560) : val_main_v63 (F := Ideal) x4 (ix2 a p) = x4 (ix2 a ⟨4 + 8 * p.val, by omega⟩) := by
  unfold val_main_v63
  rw [Host.slice_apply]
  congr 1
  funext q
  match q with
  | ⟨0, _⟩ => apply Fin.ext; show 0 + 1 * a.val = a.val; omega
  | ⟨1, _⟩ => apply Fin.ext; show 4 + 8 * p.val = 4 + 8 * p.val; rfl

theorem weight_2 (k : Fin 6144) (p : Fin 2560) : val_main_v73 (F := Ideal) x3 x4 x5 (ix2 k p) = wRef x3 x4 x5 k p 2 4 (by omega) := by
  have hk := k.isLt
  have hp := p.isLt
  have ew : idx_main_v65 (idx_main_v73 (ix2 k p)) = ix2 k p := by
    funext q
    match q with
    | ⟨0, _⟩ => apply Fin.ext; show (((k.val * 2560 + p.val) / 327680 * 128 + (k.val * 2560 + p.val) / 2560 % 128) * 2560 + (k.val * 2560 + p.val) % 2560) / 2560 = k.val; omega
    | ⟨1, _⟩ => apply Fin.ext; show (((k.val * 2560 + p.val) / 327680 * 128 + (k.val * 2560 + p.val) / 2560 % 128) * 2560 + (k.val * 2560 + p.val) % 2560) % 2560 = p.val; omega
  have ez : idx_main_v67 (idx_main_v68 (idx_main_v73 (ix2 k p))) = ix2 ⟨k.val / 128, by omega⟩ p := by
    funext q
    match q with
    | ⟨0, _⟩ => apply Fin.ext; show (k.val * 2560 + p.val) / 327680 = k.val / 128; omega
    | ⟨1, _⟩ => apply Fin.ext; show (k.val * 2560 + p.val) % 2560 = p.val; omega
  have es : idx_main_v70 (idx_main_v71 (idx_main_v73 (ix2 k p))) = ix2 ⟨k.val / 128, by omega⟩ p := ez
  rw [val_main_v73_apply, val_main_v72_apply, val_main_v69_apply, val_main_v65_apply, val_main_v64_apply, val_main_v58_apply, val_main_v56_apply, val_main_v55_apply, val_main_v57_apply,
    val_main_v68_apply, val_main_v67_apply, val_main_v66_apply, val_main_v62_apply, val_main_v60_apply, val_main_v59_apply, val_main_v61_apply, val_main_v71_apply, val_main_v70_apply,
    val_main_c_9_apply, val_main_c_10_apply, val_main_c_11_apply, val_main_c_12_apply, ew, ez, es, slice_2]
  rw [show (8#32) = BitVec.ofNat 32 (4 * 2) from rfl, shr_nib _ 2 (by omega), shr_nib _ 2 (by omega)]
  rfl

/-- The reference's product at field `f`. -/
theorem dot_2 (b : Fin 12) (s : Fin 128) (p : Fin 2560) : val_main_v74 (F := Ideal) x0 x1 x3 x4 x5 (ix3 b s p)
    = ∑ k : Fin 6144, val_main_v14 (F := Ideal) x0 x1 (ix3 b s k) * wRef x3 x4 x5 k p 2 4 (by omega) := by
  rw [val_main_v74_apply]
  refine Finset.sum_congr rfl fun k _ => ?_
  have el : lidx_main_v74 (ix3 b s p) k = ix3 b s k := by
    funext a; match a with | ⟨0, _⟩ => rfl | ⟨1, _⟩ => rfl | ⟨2, _⟩ => rfl
  have er : ridx_main_v74 (ix3 b s p) k = ix2 k p := by
    funext a; match a with | ⟨0, _⟩ => rfl | ⟨1, _⟩ => rfl
  rw [el, er, weight_2]

theorem slice_3 (a : Fin 48) (p : Fin 2560) : val_main_v83 (F := Ideal) x4 (ix2 a p) = x4 (ix2 a ⟨6 + 8 * p.val, by omega⟩) := by
  unfold val_main_v83
  rw [Host.slice_apply]
  congr 1
  funext q
  match q with
  | ⟨0, _⟩ => apply Fin.ext; show 0 + 1 * a.val = a.val; omega
  | ⟨1, _⟩ => apply Fin.ext; show 6 + 8 * p.val = 6 + 8 * p.val; rfl

theorem weight_3 (k : Fin 6144) (p : Fin 2560) : val_main_v93 (F := Ideal) x3 x4 x5 (ix2 k p) = wRef x3 x4 x5 k p 3 6 (by omega) := by
  have hk := k.isLt
  have hp := p.isLt
  have ew : idx_main_v85 (idx_main_v93 (ix2 k p)) = ix2 k p := by
    funext q
    match q with
    | ⟨0, _⟩ => apply Fin.ext; show (((k.val * 2560 + p.val) / 327680 * 128 + (k.val * 2560 + p.val) / 2560 % 128) * 2560 + (k.val * 2560 + p.val) % 2560) / 2560 = k.val; omega
    | ⟨1, _⟩ => apply Fin.ext; show (((k.val * 2560 + p.val) / 327680 * 128 + (k.val * 2560 + p.val) / 2560 % 128) * 2560 + (k.val * 2560 + p.val) % 2560) % 2560 = p.val; omega
  have ez : idx_main_v87 (idx_main_v88 (idx_main_v93 (ix2 k p))) = ix2 ⟨k.val / 128, by omega⟩ p := by
    funext q
    match q with
    | ⟨0, _⟩ => apply Fin.ext; show (k.val * 2560 + p.val) / 327680 = k.val / 128; omega
    | ⟨1, _⟩ => apply Fin.ext; show (k.val * 2560 + p.val) % 2560 = p.val; omega
  have es : idx_main_v90 (idx_main_v91 (idx_main_v93 (ix2 k p))) = ix2 ⟨k.val / 128, by omega⟩ p := ez
  rw [val_main_v93_apply, val_main_v92_apply, val_main_v89_apply, val_main_v85_apply, val_main_v84_apply, val_main_v78_apply, val_main_v76_apply, val_main_v75_apply, val_main_v77_apply,
    val_main_v88_apply, val_main_v87_apply, val_main_v86_apply, val_main_v82_apply, val_main_v80_apply, val_main_v79_apply, val_main_v81_apply, val_main_v91_apply, val_main_v90_apply,
    val_main_c_13_apply, val_main_c_14_apply, val_main_c_15_apply, val_main_c_16_apply, ew, ez, es, slice_3]
  rw [show (12#32) = BitVec.ofNat 32 (4 * 3) from rfl, shr_nib _ 3 (by omega), shr_nib _ 3 (by omega)]
  rfl

/-- The reference's product at field `f`. -/
theorem dot_3 (b : Fin 12) (s : Fin 128) (p : Fin 2560) : val_main_v94 (F := Ideal) x0 x1 x3 x4 x5 (ix3 b s p)
    = ∑ k : Fin 6144, val_main_v14 (F := Ideal) x0 x1 (ix3 b s k) * wRef x3 x4 x5 k p 3 6 (by omega) := by
  rw [val_main_v94_apply]
  refine Finset.sum_congr rfl fun k _ => ?_
  have el : lidx_main_v94 (ix3 b s p) k = ix3 b s k := by
    funext a; match a with | ⟨0, _⟩ => rfl | ⟨1, _⟩ => rfl | ⟨2, _⟩ => rfl
  have er : ridx_main_v94 (ix3 b s p) k = ix2 k p := by
    funext a; match a with | ⟨0, _⟩ => rfl | ⟨1, _⟩ => rfl
  rw [el, er, weight_3]

theorem slice_4 (a : Fin 48) (p : Fin 2560) : val_main_v103 (F := Ideal) x4 (ix2 a p) = x4 (ix2 a ⟨1 + 8 * p.val, by omega⟩) := by
  unfold val_main_v103
  rw [Host.slice_apply]
  congr 1
  funext q
  match q with
  | ⟨0, _⟩ => apply Fin.ext; show 0 + 1 * a.val = a.val; omega
  | ⟨1, _⟩ => apply Fin.ext; show 1 + 8 * p.val = 1 + 8 * p.val; rfl

theorem weight_4 (k : Fin 6144) (p : Fin 2560) : val_main_v113 (F := Ideal) x3 x4 x5 (ix2 k p) = wRef x3 x4 x5 k p 4 1 (by omega) := by
  have hk := k.isLt
  have hp := p.isLt
  have ew : idx_main_v105 (idx_main_v113 (ix2 k p)) = ix2 k p := by
    funext q
    match q with
    | ⟨0, _⟩ => apply Fin.ext; show (((k.val * 2560 + p.val) / 327680 * 128 + (k.val * 2560 + p.val) / 2560 % 128) * 2560 + (k.val * 2560 + p.val) % 2560) / 2560 = k.val; omega
    | ⟨1, _⟩ => apply Fin.ext; show (((k.val * 2560 + p.val) / 327680 * 128 + (k.val * 2560 + p.val) / 2560 % 128) * 2560 + (k.val * 2560 + p.val) % 2560) % 2560 = p.val; omega
  have ez : idx_main_v107 (idx_main_v108 (idx_main_v113 (ix2 k p))) = ix2 ⟨k.val / 128, by omega⟩ p := by
    funext q
    match q with
    | ⟨0, _⟩ => apply Fin.ext; show (k.val * 2560 + p.val) / 327680 = k.val / 128; omega
    | ⟨1, _⟩ => apply Fin.ext; show (k.val * 2560 + p.val) % 2560 = p.val; omega
  have es : idx_main_v110 (idx_main_v111 (idx_main_v113 (ix2 k p))) = ix2 ⟨k.val / 128, by omega⟩ p := ez
  rw [val_main_v113_apply, val_main_v112_apply, val_main_v109_apply, val_main_v105_apply, val_main_v104_apply, val_main_v98_apply, val_main_v96_apply, val_main_v95_apply, val_main_v97_apply,
    val_main_v108_apply, val_main_v107_apply, val_main_v106_apply, val_main_v102_apply, val_main_v100_apply, val_main_v99_apply, val_main_v101_apply, val_main_v111_apply, val_main_v110_apply,
    val_main_c_17_apply, val_main_c_18_apply, val_main_c_19_apply, val_main_c_20_apply, ew, ez, es, slice_4]
  rw [show (16#32) = BitVec.ofNat 32 (4 * 4) from rfl, shr_nib _ 4 (by omega), shr_nib _ 4 (by omega)]
  rfl

/-- The reference's product at field `f`. -/
theorem dot_4 (b : Fin 12) (s : Fin 128) (p : Fin 2560) : val_main_v114 (F := Ideal) x0 x1 x3 x4 x5 (ix3 b s p)
    = ∑ k : Fin 6144, val_main_v14 (F := Ideal) x0 x1 (ix3 b s k) * wRef x3 x4 x5 k p 4 1 (by omega) := by
  rw [val_main_v114_apply]
  refine Finset.sum_congr rfl fun k _ => ?_
  have el : lidx_main_v114 (ix3 b s p) k = ix3 b s k := by
    funext a; match a with | ⟨0, _⟩ => rfl | ⟨1, _⟩ => rfl | ⟨2, _⟩ => rfl
  have er : ridx_main_v114 (ix3 b s p) k = ix2 k p := by
    funext a; match a with | ⟨0, _⟩ => rfl | ⟨1, _⟩ => rfl
  rw [el, er, weight_4]

theorem slice_5 (a : Fin 48) (p : Fin 2560) : val_main_v123 (F := Ideal) x4 (ix2 a p) = x4 (ix2 a ⟨3 + 8 * p.val, by omega⟩) := by
  unfold val_main_v123
  rw [Host.slice_apply]
  congr 1
  funext q
  match q with
  | ⟨0, _⟩ => apply Fin.ext; show 0 + 1 * a.val = a.val; omega
  | ⟨1, _⟩ => apply Fin.ext; show 3 + 8 * p.val = 3 + 8 * p.val; rfl

theorem weight_5 (k : Fin 6144) (p : Fin 2560) : val_main_v133 (F := Ideal) x3 x4 x5 (ix2 k p) = wRef x3 x4 x5 k p 5 3 (by omega) := by
  have hk := k.isLt
  have hp := p.isLt
  have ew : idx_main_v125 (idx_main_v133 (ix2 k p)) = ix2 k p := by
    funext q
    match q with
    | ⟨0, _⟩ => apply Fin.ext; show (((k.val * 2560 + p.val) / 327680 * 128 + (k.val * 2560 + p.val) / 2560 % 128) * 2560 + (k.val * 2560 + p.val) % 2560) / 2560 = k.val; omega
    | ⟨1, _⟩ => apply Fin.ext; show (((k.val * 2560 + p.val) / 327680 * 128 + (k.val * 2560 + p.val) / 2560 % 128) * 2560 + (k.val * 2560 + p.val) % 2560) % 2560 = p.val; omega
  have ez : idx_main_v127 (idx_main_v128 (idx_main_v133 (ix2 k p))) = ix2 ⟨k.val / 128, by omega⟩ p := by
    funext q
    match q with
    | ⟨0, _⟩ => apply Fin.ext; show (k.val * 2560 + p.val) / 327680 = k.val / 128; omega
    | ⟨1, _⟩ => apply Fin.ext; show (k.val * 2560 + p.val) % 2560 = p.val; omega
  have es : idx_main_v130 (idx_main_v131 (idx_main_v133 (ix2 k p))) = ix2 ⟨k.val / 128, by omega⟩ p := ez
  rw [val_main_v133_apply, val_main_v132_apply, val_main_v129_apply, val_main_v125_apply, val_main_v124_apply, val_main_v118_apply, val_main_v116_apply, val_main_v115_apply, val_main_v117_apply,
    val_main_v128_apply, val_main_v127_apply, val_main_v126_apply, val_main_v122_apply, val_main_v120_apply, val_main_v119_apply, val_main_v121_apply, val_main_v131_apply, val_main_v130_apply,
    val_main_c_21_apply, val_main_c_22_apply, val_main_c_23_apply, val_main_c_24_apply, ew, ez, es, slice_5]
  rw [show (20#32) = BitVec.ofNat 32 (4 * 5) from rfl, shr_nib _ 5 (by omega), shr_nib _ 5 (by omega)]
  rfl

/-- The reference's product at field `f`. -/
theorem dot_5 (b : Fin 12) (s : Fin 128) (p : Fin 2560) : val_main_v134 (F := Ideal) x0 x1 x3 x4 x5 (ix3 b s p)
    = ∑ k : Fin 6144, val_main_v14 (F := Ideal) x0 x1 (ix3 b s k) * wRef x3 x4 x5 k p 5 3 (by omega) := by
  rw [val_main_v134_apply]
  refine Finset.sum_congr rfl fun k _ => ?_
  have el : lidx_main_v134 (ix3 b s p) k = ix3 b s k := by
    funext a; match a with | ⟨0, _⟩ => rfl | ⟨1, _⟩ => rfl | ⟨2, _⟩ => rfl
  have er : ridx_main_v134 (ix3 b s p) k = ix2 k p := by
    funext a; match a with | ⟨0, _⟩ => rfl | ⟨1, _⟩ => rfl
  rw [el, er, weight_5]

theorem slice_6 (a : Fin 48) (p : Fin 2560) : val_main_v143 (F := Ideal) x4 (ix2 a p) = x4 (ix2 a ⟨5 + 8 * p.val, by omega⟩) := by
  unfold val_main_v143
  rw [Host.slice_apply]
  congr 1
  funext q
  match q with
  | ⟨0, _⟩ => apply Fin.ext; show 0 + 1 * a.val = a.val; omega
  | ⟨1, _⟩ => apply Fin.ext; show 5 + 8 * p.val = 5 + 8 * p.val; rfl

theorem weight_6 (k : Fin 6144) (p : Fin 2560) : val_main_v153 (F := Ideal) x3 x4 x5 (ix2 k p) = wRef x3 x4 x5 k p 6 5 (by omega) := by
  have hk := k.isLt
  have hp := p.isLt
  have ew : idx_main_v145 (idx_main_v153 (ix2 k p)) = ix2 k p := by
    funext q
    match q with
    | ⟨0, _⟩ => apply Fin.ext; show (((k.val * 2560 + p.val) / 327680 * 128 + (k.val * 2560 + p.val) / 2560 % 128) * 2560 + (k.val * 2560 + p.val) % 2560) / 2560 = k.val; omega
    | ⟨1, _⟩ => apply Fin.ext; show (((k.val * 2560 + p.val) / 327680 * 128 + (k.val * 2560 + p.val) / 2560 % 128) * 2560 + (k.val * 2560 + p.val) % 2560) % 2560 = p.val; omega
  have ez : idx_main_v147 (idx_main_v148 (idx_main_v153 (ix2 k p))) = ix2 ⟨k.val / 128, by omega⟩ p := by
    funext q
    match q with
    | ⟨0, _⟩ => apply Fin.ext; show (k.val * 2560 + p.val) / 327680 = k.val / 128; omega
    | ⟨1, _⟩ => apply Fin.ext; show (k.val * 2560 + p.val) % 2560 = p.val; omega
  have es : idx_main_v150 (idx_main_v151 (idx_main_v153 (ix2 k p))) = ix2 ⟨k.val / 128, by omega⟩ p := ez
  rw [val_main_v153_apply, val_main_v152_apply, val_main_v149_apply, val_main_v145_apply, val_main_v144_apply, val_main_v138_apply, val_main_v136_apply, val_main_v135_apply, val_main_v137_apply,
    val_main_v148_apply, val_main_v147_apply, val_main_v146_apply, val_main_v142_apply, val_main_v140_apply, val_main_v139_apply, val_main_v141_apply, val_main_v151_apply, val_main_v150_apply,
    val_main_c_25_apply, val_main_c_26_apply, val_main_c_27_apply, val_main_c_28_apply, ew, ez, es, slice_6]
  rw [show (24#32) = BitVec.ofNat 32 (4 * 6) from rfl, shr_nib _ 6 (by omega), shr_nib _ 6 (by omega)]
  rfl

/-- The reference's product at field `f`. -/
theorem dot_6 (b : Fin 12) (s : Fin 128) (p : Fin 2560) : val_main_v154 (F := Ideal) x0 x1 x3 x4 x5 (ix3 b s p)
    = ∑ k : Fin 6144, val_main_v14 (F := Ideal) x0 x1 (ix3 b s k) * wRef x3 x4 x5 k p 6 5 (by omega) := by
  rw [val_main_v154_apply]
  refine Finset.sum_congr rfl fun k _ => ?_
  have el : lidx_main_v154 (ix3 b s p) k = ix3 b s k := by
    funext a; match a with | ⟨0, _⟩ => rfl | ⟨1, _⟩ => rfl | ⟨2, _⟩ => rfl
  have er : ridx_main_v154 (ix3 b s p) k = ix2 k p := by
    funext a; match a with | ⟨0, _⟩ => rfl | ⟨1, _⟩ => rfl
  rw [el, er, weight_6]

theorem slice_7 (a : Fin 48) (p : Fin 2560) : val_main_v163 (F := Ideal) x4 (ix2 a p) = x4 (ix2 a ⟨7 + 8 * p.val, by omega⟩) := by
  unfold val_main_v163
  rw [Host.slice_apply]
  congr 1
  funext q
  match q with
  | ⟨0, _⟩ => apply Fin.ext; show 0 + 1 * a.val = a.val; omega
  | ⟨1, _⟩ => apply Fin.ext; show 7 + 8 * p.val = 7 + 8 * p.val; rfl

theorem weight_7 (k : Fin 6144) (p : Fin 2560) : val_main_v173 (F := Ideal) x3 x4 x5 (ix2 k p) = wRef x3 x4 x5 k p 7 7 (by omega) := by
  have hk := k.isLt
  have hp := p.isLt
  have ew : idx_main_v165 (idx_main_v173 (ix2 k p)) = ix2 k p := by
    funext q
    match q with
    | ⟨0, _⟩ => apply Fin.ext; show (((k.val * 2560 + p.val) / 327680 * 128 + (k.val * 2560 + p.val) / 2560 % 128) * 2560 + (k.val * 2560 + p.val) % 2560) / 2560 = k.val; omega
    | ⟨1, _⟩ => apply Fin.ext; show (((k.val * 2560 + p.val) / 327680 * 128 + (k.val * 2560 + p.val) / 2560 % 128) * 2560 + (k.val * 2560 + p.val) % 2560) % 2560 = p.val; omega
  have ez : idx_main_v167 (idx_main_v168 (idx_main_v173 (ix2 k p))) = ix2 ⟨k.val / 128, by omega⟩ p := by
    funext q
    match q with
    | ⟨0, _⟩ => apply Fin.ext; show (k.val * 2560 + p.val) / 327680 = k.val / 128; omega
    | ⟨1, _⟩ => apply Fin.ext; show (k.val * 2560 + p.val) % 2560 = p.val; omega
  have es : idx_main_v170 (idx_main_v171 (idx_main_v173 (ix2 k p))) = ix2 ⟨k.val / 128, by omega⟩ p := ez
  rw [val_main_v173_apply, val_main_v172_apply, val_main_v169_apply, val_main_v165_apply, val_main_v164_apply, val_main_v158_apply, val_main_v156_apply, val_main_v155_apply, val_main_v157_apply,
    val_main_v168_apply, val_main_v167_apply, val_main_v166_apply, val_main_v162_apply, val_main_v160_apply, val_main_v159_apply, val_main_v161_apply, val_main_v171_apply, val_main_v170_apply,
    val_main_c_29_apply, val_main_c_30_apply, val_main_c_31_apply, val_main_c_32_apply, ew, ez, es, slice_7]
  rw [show (28#32) = BitVec.ofNat 32 (4 * 7) from rfl, shr_nib _ 7 (by omega), shr_nib _ 7 (by omega)]
  rfl

/-- The reference's product at field `f`. -/
theorem dot_7 (b : Fin 12) (s : Fin 128) (p : Fin 2560) : val_main_v174 (F := Ideal) x0 x1 x3 x4 x5 (ix3 b s p)
    = ∑ k : Fin 6144, val_main_v14 (F := Ideal) x0 x1 (ix3 b s k) * wRef x3 x4 x5 k p 7 7 (by omega) := by
  rw [val_main_v174_apply]
  refine Finset.sum_congr rfl fun k _ => ?_
  have el : lidx_main_v174 (ix3 b s p) k = ix3 b s k := by
    funext a; match a with | ⟨0, _⟩ => rfl | ⟨1, _⟩ => rfl | ⟨2, _⟩ => rfl
  have er : ridx_main_v174 (ix3 b s p) k = ix2 k p := by
    funext a; match a with | ⟨0, _⟩ => rfl | ⟨1, _⟩ => rfl
  rw [el, er, weight_7]

/-- The field kept at column `o` of each eight. -/
def fldOf (o : ℕ) : ℕ := o % 8 / 2 + 4 * (o % 2)

section
variable (y0 y1 y2 y3 y4 y5 y6 y7 : S12x128x2560x1.Idx → EReal)
  (h : Shape.Concatenates (([⟨S12x128x2560x1, y0⟩, ⟨S12x128x2560x1, y1⟩, ⟨S12x128x2560x1, y2⟩, ⟨S12x128x2560x1, y3⟩, ⟨S12x128x2560x1, y4⟩, ⟨S12x128x2560x1, y5⟩, ⟨S12x128x2560x1, y6⟩, ⟨S12x128x2560x1, y7⟩] : List ((s : Shape) × (s.Idx → EReal))).map (·.1)) S12x128x2560x8 3) (b : Fin 12) (s : Fin 128) (p : Fin 2560)
include h

/-! Eight arrays of last extent one side by side: position `o` of the last axis is array `o`. -/

theorem piece_0 : concatenate S12x128x2560x8 3 [⟨S12x128x2560x1, y0⟩, ⟨S12x128x2560x1, y1⟩, ⟨S12x128x2560x1, y2⟩, ⟨S12x128x2560x1, y3⟩, ⟨S12x128x2560x1, y4⟩, ⟨S12x128x2560x1, y5⟩, ⟨S12x128x2560x1, y6⟩, ⟨S12x128x2560x1, y7⟩] h (ix4 b s p 0) = y0 (ix4 b s p 0) :=
  concatenate_apply_piece (t := S12x128x2560x8) 3 [⟨S12x128x2560x1, y0⟩, ⟨S12x128x2560x1, y1⟩, ⟨S12x128x2560x1, y2⟩, ⟨S12x128x2560x1, y3⟩, ⟨S12x128x2560x1, y4⟩, ⟨S12x128x2560x1, y5⟩, ⟨S12x128x2560x1, y6⟩, ⟨S12x128x2560x1, y7⟩] h (ix4 b s p 0) 0 (by show 0 < 8; omega) S12x128x2560x1 y0 rfl rfl 0 (by rfl) (ix4 b s p 0)
    (fun q hq => by
      match q with
      | ⟨0, _⟩ => rfl
      | ⟨1, _⟩ => rfl
      | ⟨2, _⟩ => rfl
      | ⟨3, _⟩ => exact absurd rfl hq) rfl

theorem piece_1 : concatenate S12x128x2560x8 3 [⟨S12x128x2560x1, y0⟩, ⟨S12x128x2560x1, y1⟩, ⟨S12x128x2560x1, y2⟩, ⟨S12x128x2560x1, y3⟩, ⟨S12x128x2560x1, y4⟩, ⟨S12x128x2560x1, y5⟩, ⟨S12x128x2560x1, y6⟩, ⟨S12x128x2560x1, y7⟩] h (ix4 b s p 1) = y1 (ix4 b s p 0) :=
  concatenate_apply_piece (t := S12x128x2560x8) 3 [⟨S12x128x2560x1, y0⟩, ⟨S12x128x2560x1, y1⟩, ⟨S12x128x2560x1, y2⟩, ⟨S12x128x2560x1, y3⟩, ⟨S12x128x2560x1, y4⟩, ⟨S12x128x2560x1, y5⟩, ⟨S12x128x2560x1, y6⟩, ⟨S12x128x2560x1, y7⟩] h (ix4 b s p 1) 1 (by show 1 < 8; omega) S12x128x2560x1 y1 rfl rfl 1 (by rfl) (ix4 b s p 0)
    (fun q hq => by
      match q with
      | ⟨0, _⟩ => rfl
      | ⟨1, _⟩ => rfl
      | ⟨2, _⟩ => rfl
      | ⟨3, _⟩ => exact absurd rfl hq) rfl

theorem piece_2 : concatenate S12x128x2560x8 3 [⟨S12x128x2560x1, y0⟩, ⟨S12x128x2560x1, y1⟩, ⟨S12x128x2560x1, y2⟩, ⟨S12x128x2560x1, y3⟩, ⟨S12x128x2560x1, y4⟩, ⟨S12x128x2560x1, y5⟩, ⟨S12x128x2560x1, y6⟩, ⟨S12x128x2560x1, y7⟩] h (ix4 b s p 2) = y2 (ix4 b s p 0) :=
  concatenate_apply_piece (t := S12x128x2560x8) 3 [⟨S12x128x2560x1, y0⟩, ⟨S12x128x2560x1, y1⟩, ⟨S12x128x2560x1, y2⟩, ⟨S12x128x2560x1, y3⟩, ⟨S12x128x2560x1, y4⟩, ⟨S12x128x2560x1, y5⟩, ⟨S12x128x2560x1, y6⟩, ⟨S12x128x2560x1, y7⟩] h (ix4 b s p 2) 2 (by show 2 < 8; omega) S12x128x2560x1 y2 rfl rfl 2 (by rfl) (ix4 b s p 0)
    (fun q hq => by
      match q with
      | ⟨0, _⟩ => rfl
      | ⟨1, _⟩ => rfl
      | ⟨2, _⟩ => rfl
      | ⟨3, _⟩ => exact absurd rfl hq) rfl

theorem piece_3 : concatenate S12x128x2560x8 3 [⟨S12x128x2560x1, y0⟩, ⟨S12x128x2560x1, y1⟩, ⟨S12x128x2560x1, y2⟩, ⟨S12x128x2560x1, y3⟩, ⟨S12x128x2560x1, y4⟩, ⟨S12x128x2560x1, y5⟩, ⟨S12x128x2560x1, y6⟩, ⟨S12x128x2560x1, y7⟩] h (ix4 b s p 3) = y3 (ix4 b s p 0) :=
  concatenate_apply_piece (t := S12x128x2560x8) 3 [⟨S12x128x2560x1, y0⟩, ⟨S12x128x2560x1, y1⟩, ⟨S12x128x2560x1, y2⟩, ⟨S12x128x2560x1, y3⟩, ⟨S12x128x2560x1, y4⟩, ⟨S12x128x2560x1, y5⟩, ⟨S12x128x2560x1, y6⟩, ⟨S12x128x2560x1, y7⟩] h (ix4 b s p 3) 3 (by show 3 < 8; omega) S12x128x2560x1 y3 rfl rfl 3 (by rfl) (ix4 b s p 0)
    (fun q hq => by
      match q with
      | ⟨0, _⟩ => rfl
      | ⟨1, _⟩ => rfl
      | ⟨2, _⟩ => rfl
      | ⟨3, _⟩ => exact absurd rfl hq) rfl

theorem piece_4 : concatenate S12x128x2560x8 3 [⟨S12x128x2560x1, y0⟩, ⟨S12x128x2560x1, y1⟩, ⟨S12x128x2560x1, y2⟩, ⟨S12x128x2560x1, y3⟩, ⟨S12x128x2560x1, y4⟩, ⟨S12x128x2560x1, y5⟩, ⟨S12x128x2560x1, y6⟩, ⟨S12x128x2560x1, y7⟩] h (ix4 b s p 4) = y4 (ix4 b s p 0) :=
  concatenate_apply_piece (t := S12x128x2560x8) 3 [⟨S12x128x2560x1, y0⟩, ⟨S12x128x2560x1, y1⟩, ⟨S12x128x2560x1, y2⟩, ⟨S12x128x2560x1, y3⟩, ⟨S12x128x2560x1, y4⟩, ⟨S12x128x2560x1, y5⟩, ⟨S12x128x2560x1, y6⟩, ⟨S12x128x2560x1, y7⟩] h (ix4 b s p 4) 4 (by show 4 < 8; omega) S12x128x2560x1 y4 rfl rfl 4 (by rfl) (ix4 b s p 0)
    (fun q hq => by
      match q with
      | ⟨0, _⟩ => rfl
      | ⟨1, _⟩ => rfl
      | ⟨2, _⟩ => rfl
      | ⟨3, _⟩ => exact absurd rfl hq) rfl

theorem piece_5 : concatenate S12x128x2560x8 3 [⟨S12x128x2560x1, y0⟩, ⟨S12x128x2560x1, y1⟩, ⟨S12x128x2560x1, y2⟩, ⟨S12x128x2560x1, y3⟩, ⟨S12x128x2560x1, y4⟩, ⟨S12x128x2560x1, y5⟩, ⟨S12x128x2560x1, y6⟩, ⟨S12x128x2560x1, y7⟩] h (ix4 b s p 5) = y5 (ix4 b s p 0) :=
  concatenate_apply_piece (t := S12x128x2560x8) 3 [⟨S12x128x2560x1, y0⟩, ⟨S12x128x2560x1, y1⟩, ⟨S12x128x2560x1, y2⟩, ⟨S12x128x2560x1, y3⟩, ⟨S12x128x2560x1, y4⟩, ⟨S12x128x2560x1, y5⟩, ⟨S12x128x2560x1, y6⟩, ⟨S12x128x2560x1, y7⟩] h (ix4 b s p 5) 5 (by show 5 < 8; omega) S12x128x2560x1 y5 rfl rfl 5 (by rfl) (ix4 b s p 0)
    (fun q hq => by
      match q with
      | ⟨0, _⟩ => rfl
      | ⟨1, _⟩ => rfl
      | ⟨2, _⟩ => rfl
      | ⟨3, _⟩ => exact absurd rfl hq) rfl

theorem piece_6 : concatenate S12x128x2560x8 3 [⟨S12x128x2560x1, y0⟩, ⟨S12x128x2560x1, y1⟩, ⟨S12x128x2560x1, y2⟩, ⟨S12x128x2560x1, y3⟩, ⟨S12x128x2560x1, y4⟩, ⟨S12x128x2560x1, y5⟩, ⟨S12x128x2560x1, y6⟩, ⟨S12x128x2560x1, y7⟩] h (ix4 b s p 6) = y6 (ix4 b s p 0) :=
  concatenate_apply_piece (t := S12x128x2560x8) 3 [⟨S12x128x2560x1, y0⟩, ⟨S12x128x2560x1, y1⟩, ⟨S12x128x2560x1, y2⟩, ⟨S12x128x2560x1, y3⟩, ⟨S12x128x2560x1, y4⟩, ⟨S12x128x2560x1, y5⟩, ⟨S12x128x2560x1, y6⟩, ⟨S12x128x2560x1, y7⟩] h (ix4 b s p 6) 6 (by show 6 < 8; omega) S12x128x2560x1 y6 rfl rfl 6 (by rfl) (ix4 b s p 0)
    (fun q hq => by
      match q with
      | ⟨0, _⟩ => rfl
      | ⟨1, _⟩ => rfl
      | ⟨2, _⟩ => rfl
      | ⟨3, _⟩ => exact absurd rfl hq) rfl

theorem piece_7 : concatenate S12x128x2560x8 3 [⟨S12x128x2560x1, y0⟩, ⟨S12x128x2560x1, y1⟩, ⟨S12x128x2560x1, y2⟩, ⟨S12x128x2560x1, y3⟩, ⟨S12x128x2560x1, y4⟩, ⟨S12x128x2560x1, y5⟩, ⟨S12x128x2560x1, y6⟩, ⟨S12x128x2560x1, y7⟩] h (ix4 b s p 7) = y7 (ix4 b s p 0) :=
  concatenate_apply_piece (t := S12x128x2560x8) 3 [⟨S12x128x2560x1, y0⟩, ⟨S12x128x2560x1, y1⟩, ⟨S12x128x2560x1, y2⟩, ⟨S12x128x2560x1, y3⟩, ⟨S12x128x2560x1, y4⟩, ⟨S12x128x2560x1, y5⟩, ⟨S12x128x2560x1, y6⟩, ⟨S12x128x2560x1, y7⟩] h (ix4 b s p 7) 7 (by show 7 < 8; omega) S12x128x2560x1 y7 rfl rfl 7 (by rfl) (ix4 b s p 0)
    (fun q hq => by
      match q with
      | ⟨0, _⟩ => rfl
      | ⟨1, _⟩ => rfl
      | ⟨2, _⟩ => rfl
      | ⟨3, _⟩ => exact absurd rfl hq) rfl

end

/-- The eight products side by side: column `8 p + o` is word `p`'s field `fldOf o`. -/
theorem stack_apply (b : Fin 12) (s : Fin 128) (p : Fin 2560) (o : Fin 8) : val_main_v183 (F := Ideal) x0 x1 x3 x4 x5 (ix4 b s p o)
    = ∑ k : Fin 6144, val_main_v14 (F := Ideal) x0 x1 (ix3 b s k) * wRef x3 x4 x5 k p (fldOf o.val) o.val o.isLt := by
  unfold val_main_v183
  match o with
  | ⟨0, _⟩ =>
    refine (piece_0 _ _ _ _ _ _ _ _ _ b s p).trans ?_
    have ef : fldOf 0 = 0 := by decide
    dsimp only
    rw [val_main_v175_apply, ef]
    refine Eq.trans ?_ (dot_0 x0 x1 x3 x4 x5 b s p)
    congr 1
    funext a; match a with | ⟨0, _⟩ => rfl | ⟨1, _⟩ => rfl | ⟨2, _⟩ => rfl
  | ⟨1, _⟩ =>
    refine (piece_1 _ _ _ _ _ _ _ _ _ b s p).trans ?_
    have ef : fldOf 1 = 4 := by decide
    dsimp only
    rw [val_main_v176_apply, ef]
    refine Eq.trans ?_ (dot_4 x0 x1 x3 x4 x5 b s p)
    congr 1
    funext a; match a with | ⟨0, _⟩ => rfl | ⟨1, _⟩ => rfl | ⟨2, _⟩ => rfl
  | ⟨2, _⟩ =>
    refine (piece_2 _ _ _ _ _ _ _ _ _ b s p).trans ?_
    have ef : fldOf 2 = 1 := by decide
    dsimp only
    rw [val_main_v177_apply, ef]
    refine Eq.trans ?_ (dot_1 x0 x1 x3 x4 x5 b s p)
    congr 1
    funext a; match a with | ⟨0, _⟩ => rfl | ⟨1, _⟩ => rfl | ⟨2, _⟩ => rfl
  | ⟨3, _⟩ =>
    refine (piece_3 _ _ _ _ _ _ _ _ _ b s p).trans ?_
    have ef : fldOf 3 = 5 := by decide
    dsimp only
    rw [val_main_v178_apply, ef]
    refine Eq.trans ?_ (dot_5 x0 x1 x3 x4 x5 b s p)
    congr 1
    funext a; match a with | ⟨0, _⟩ => rfl | ⟨1, _⟩ => rfl | ⟨2, _⟩ => rfl
  | ⟨4, _⟩ =>
    refine (piece_4 _ _ _ _ _ _ _ _ _ b s p).trans ?_
    have ef : fldOf 4 = 2 := by decide
    dsimp only
    rw [val_main_v179_apply, ef]
    refine Eq.trans ?_ (dot_2 x0 x1 x3 x4 x5 b s p)
    congr 1
    funext a; match a with | ⟨0, _⟩ => rfl | ⟨1, _⟩ => rfl | ⟨2, _⟩ => rfl
  | ⟨5, _⟩ =>
    refine (piece_5 _ _ _ _ _ _ _ _ _ b s p).trans ?_
    have ef : fldOf 5 = 6 := by decide
    dsimp only
    rw [val_main_v180_apply, ef]
    refine Eq.trans ?_ (dot_6 x0 x1 x3 x4 x5 b s p)
    congr 1
    funext a; match a with | ⟨0, _⟩ => rfl | ⟨1, _⟩ => rfl | ⟨2, _⟩ => rfl
  | ⟨6, _⟩ =>
    refine (piece_6 _ _ _ _ _ _ _ _ _ b s p).trans ?_
    have ef : fldOf 6 = 3 := by decide
    dsimp only
    rw [val_main_v181_apply, ef]
    refine Eq.trans ?_ (dot_3 x0 x1 x3 x4 x5 b s p)
    congr 1
    funext a; match a with | ⟨0, _⟩ => rfl | ⟨1, _⟩ => rfl | ⟨2, _⟩ => rfl
  | ⟨7, _⟩ =>
    refine (piece_7 _ _ _ _ _ _ _ _ _ b s p).trans ?_
    have ef : fldOf 7 = 7 := by decide
    dsimp only
    rw [val_main_v182_apply, ef]
    refine Eq.trans ?_ (dot_7 x0 x1 x3 x4 x5 b s p)
    congr 1
    funext a; match a with | ⟨0, _⟩ => rfl | ⟨1, _⟩ => rfl | ⟨2, _⟩ => rfl

/-- The reference's result at row `r` and column `n`. -/
theorem result_apply (r : Fin 1536) (n : Fin 20480) : val_main_v189 (F := Ideal) x0 x1 x2 x3 x4 x5 (ix2 r n)
    = (∑ k : Fin 6144, val_main_v14 (F := Ideal) x0 x1 (ix3 ⟨r.val / 128, by omega⟩ ⟨r.val % 128, by omega⟩ k)
        * wRef x3 x4 x5 k ⟨n.val / 8, by omega⟩ (fldOf n.val) (n.val % 8) (by omega)) + x2 (ix1 n) := by
  have hr := r.isLt
  have hn := n.isLt
  have e3 : idx_main_v189 (ix2 r n) = ix3 ⟨r.val / 128, by omega⟩ ⟨r.val % 128, by omega⟩ n := by
    funext q
    match q with
    | ⟨0, _⟩ => apply Fin.ext; show (r.val * 20480 + n.val) / 2621440 = r.val / 128; omega
    | ⟨1, _⟩ => apply Fin.ext; show (r.val * 20480 + n.val) / 20480 % 128 = r.val % 128; omega
    | ⟨2, _⟩ => apply Fin.ext; show (r.val * 20480 + n.val) % 20480 = n.val; omega
  have e4 : idx_main_v184 (ix3 ⟨r.val / 128, by omega⟩ ⟨r.val % 128, by omega⟩ n) = ix4 ⟨r.val / 128, by omega⟩ ⟨r.val % 128, by omega⟩ ⟨n.val / 8, by omega⟩ ⟨n.val % 8, by omega⟩ := by
    funext q
    match q with
    | ⟨0, _⟩ => apply Fin.ext; show ((r.val / 128 * 128 + r.val % 128) * 20480 + n.val) / 2621440 = r.val / 128; omega
    | ⟨1, _⟩ => apply Fin.ext; show ((r.val / 128 * 128 + r.val % 128) * 20480 + n.val) / 20480 % 128 = r.val % 128; omega
    | ⟨2, _⟩ => apply Fin.ext; show ((r.val / 128 * 128 + r.val % 128) * 20480 + n.val) / 8 % 2560 = n.val / 8; omega
    | ⟨3, _⟩ => apply Fin.ext; show ((r.val / 128 * 128 + r.val % 128) * 20480 + n.val) % 8 = n.val % 8; omega
  have e2 : idx_main_v185 (idx_main_v186 (ix3 ⟨r.val / 128, by omega⟩ ⟨r.val % 128, by omega⟩ n)) = ix1 n := by
    funext q; match q with | ⟨0, _⟩ => rfl
  have ef : fldOf (n.val % 8) = fldOf n.val := by unfold fldOf; omega
  rw [val_main_v189_apply, val_main_v188_apply, e3, val_main_v187_apply, val_main_v184_apply, val_main_v186_apply, val_main_v185_apply,
    e4, e2, stack_apply]
  dsimp only
  rw [ef]
  rfl

end Cert.ReferenceIdeal.Val

end
-- ==== Proof.Value.lean ====
module

public import proofs.«01_k».proof.Proof.Gen.KernelIdeal.Frame
public import proofs.«01_k».proof.Proof.Gen.KernelIdeal.Loops
public import proofs.«01_k».proof.Proof.Gen.KernelIdeal.Points
public import proofs.«01_k».proof.Defs
public import Idealize.ShloMosaic.Lib.Claim
public import Idealize.ShloMosaic.Lib.BitcastPair
public import Idealize.ShloMosaic.Lib.KernelVsHost
public import Idealize.ShloMosaic.Lib.Pointwise
public import proofs.«01_k».proof.Proof.Full
public import proofs.«01_k».proof.Proof.Launch
public import proofs.«01_k».proof.Proof.Ref

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Words

local notation "𝕄" => MT nD τ sig Unit (Elt Ideal) ℕ (UR sig nD τ) ℕ

variable (m : (ℓ : Loc nD τ sig) → Buf (Elt Ideal) ℓ)

/-! ## The arrays the kernel's region finds: reshapes of the arguments, read elementwise -/

/-- The activations' two leading axes as one: row `r` is batch `r / 128`, position `r % 128`. -/
theorem x_apply (c : Dev nD) (r : Fin 1536) (k : Fin 6144) :
    V m c main_v0 (ix2 r k) = m ((c.tc : Thread nD τ).loc main_arg0) (ix3 ⟨r.val / 128, by omega⟩ ⟨r.val % 128, by omega⟩ k) := by
  have e : V m c main_v0 = shapeCast S1536x6144 (m ((c.tc : Thread nD τ).loc main_arg0)) shapeCasts_S12x128x6144_S1536x6144 := by
    show StableHlo.after hostOps0 (fun b => m (c, b)) (Proc.devRef .tc main_v0) = _
    after_results
    rfl
  rw [e]
  refine shapeCast_apply (s := S12x128x6144) _ _ _ _ ?_
  rw [Shape.rowMajor_val_three, Shape.rowMajor_val_two]
  show (r.val / 128 * 128 + r.val % 128) * 6144 + k.val = r.val * 6144 + k.val
  omega

/-- The gain as one row. -/
theorem g_apply (c : Dev nD) (k : Fin 6144) :
    V m c main_v1 (ix2 0 k) = m ((c.tc : Thread nD τ).loc main_arg1) (ix1 k) := by
  have e : V m c main_v1 = shapeCast S1x6144 (m ((c.tc : Thread nD τ).loc main_arg1)) shapeCasts_S6144_S1x6144 := by
    show StableHlo.after hostOps0 (fun b => m (c, b)) (Proc.devRef .tc main_v1) = _
    after_results
    rfl
  rw [e]
  refine shapeCast_apply (s := S6144) _ _ _ _ ?_
  rw [Shape.rowMajor_val_one, Shape.rowMajor_val_two]
  show k.val = 0 * 6144 + k.val
  omega

/-- The bias as one row. -/
theorem b_apply (c : Dev nD) (k : Fin 20480) :
    V m c main_v2 (ix2 0 k) = m ((c.tc : Thread nD τ).loc main_arg2) (ix1 k) := by
  have e : V m c main_v2 = shapeCast S1x20480 (m ((c.tc : Thread nD τ).loc main_arg2)) shapeCasts_S20480_S1x20480 := by
    show StableHlo.after hostOps0 (fun b => m (c, b)) (Proc.devRef .tc main_v2) = _
    after_results
    rfl
  rw [e]
  refine shapeCast_apply (s := S20480) _ _ _ _ ?_
  rw [Shape.rowMajor_val_one, Shape.rowMajor_val_two]
  show k.val = 0 * 20480 + k.val
  omega

/-! ## The kernel's result is the reference's -/

/-- The kernel's normalized activations are the reference's. -/
theorem XN_eq (c : Dev nD) (r : Fin 1536) (k : Fin 6144) :
    XN m c (ix2 r k) = Cert.ReferenceIdeal.Read.val_main_v14 (F := Ideal) (m ((c.tc : Thread nD τ).loc main_arg0)) (m ((c.tc : Thread nD τ).loc main_arg1))
      (ix3 ⟨r.val / 128, by omega⟩ ⟨r.val % 128, by omega⟩ k) := by
  refine Eq.trans ?_ (Cert.ReferenceIdeal.Val.norm_apply _ _ _ _ _).symm
  show normAt (fun j => V m c main_v0 (ix2 r j)) (V m c main_v1 (ix2 0 k)) k = _
  rw [g_apply, show (fun j => V m c main_v0 (ix2 r j)) = fun j => m ((c.tc : Thread nD τ).loc main_arg0) (ix3 ⟨r.val / 128, by omega⟩ ⟨r.val % 128, by omega⟩ j)
    from funext fun j => x_apply m c r j]
  rfl

/-- The kernel's weights are the reference's. -/
theorem WT_eq (c : Dev nD) (k : Fin 6144) (n : Fin 20480) :
    WT m c k n = Cert.ReferenceIdeal.Val.wRef (m ((c.tc : Thread nD τ).loc main_arg3)) (m ((c.tc : Thread nD τ).loc main_arg4)) (m ((c.tc : Thread nD τ).loc main_arg5))
      k ⟨n.val / 8, by omega⟩ (Cert.ReferenceIdeal.Val.fldOf n.val) (n.val % 8) (by omega) := by
  unfold WT WTf Cert.ReferenceIdeal.Val.wRef
  rw [V_main_arg3, V_main_arg4, V_main_arg5]
  have en : (⟨n.val % 8 + 8 * (n.val / 8), by omega⟩ : Fin 20480) = n := Fin.ext (by dsimp only; omega)
  rw [en]
  rfl

/-- The kernel's result array is the reference's function of the arguments. -/
theorem OUT_eq (c : Dev nD) : OUT m c = Cert.ReferenceIdeal.Read.val_main_v189 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) (m ((c.tc : Thread nD τ).loc main_arg5)) := by
  have key : ∀ (r : Fin 1536) (n : Fin 20480), OUT m c (ix2 r n) = Cert.ReferenceIdeal.Read.val_main_v189 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) (m ((c.tc : Thread nD τ).loc main_arg5)) (ix2 r n) := by
    intro r n
    refine Eq.trans ?_ (Cert.ReferenceIdeal.Val.result_apply _ _ _ _ _ _ r n).symm
    show ∑ k : Fin 6144, XN m c (ix2 r k) * WT m c k n + V m c main_v2 (ix2 0 n) = _
    rw [b_apply]
    exact congrArg (· + _) (Finset.sum_congr rfl fun k _ => congrArg₂ (· * ·) (XN_eq m c r k) (WT_eq m c k n))
  funext y
  exact (congrArg _ (eq_ix2 y)).trans ((key (y 0) (y 1)).trans (congrArg _ (eq_ix2 y)).symm)

/-- On agreeing arguments the kernel's run and the reference's end with equal result arrays, the arguments unchanged. -/
theorem algebraic : Cert.algebraic_KernelIdeal_ReferenceIdeal (hKernelIdeal := Cert.KernelIdeal.Gen.facts) (hReferenceIdeal := Cert.ReferenceIdeal.Gen.facts) := by
  intro m g m' g' _ hagree
  refine ⟨fun c => OUT m c, run m g, ?_⟩
  refine (θ_run Cert.ReferenceIdeal.defs _ _).mono (fun r h c => ⟨?_, (h c).2⟩) (Cert.ReferenceIdeal.Value.run (F := Ideal) m' g')
  refine (h c).1.trans ?_
  refine (Cert.ReferenceIdeal.Read.val_main_v189_eq (F := Ideal) _).trans ?_
  refine Eq.trans ?_ (OUT_eq m c).symm
  obtain ⟨h0, h1, h2, h3, h4, h5⟩ := hagree c
  show Cert.ReferenceIdeal.Read.val_main_v189 (F := Ideal) (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5)) = _
  rw [h0, h1, h2, h3, h4, h5]

end Cert.KernelIdeal.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KFrame
public import proofs.«01_k».proof.Proof.Value
public import Idealize.ShloMosaic.Adequacy
public import Idealize.ShloMosaic.Init

@[expose] public section

noncomputable section

namespace Cert.Proof

open Idealize.ShloMosaic Idealize.SL.Sem Cert.Kernel

/-- The reference's frame: its run ends with the arguments unchanged, and it has no semaphore. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  fun m ρ _ => Cert.Kernel.Frm.frame m ρ, fun m ρ _ => Cert.KernelIdeal.Val.frame m ρ, frame_reference, trivial,
  Cert.KernelIdeal.Val.algebraic⟩

end Cert.Proof

end
